-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite3 [hPre_finite3 : Cert.Pre_finite3.Facts] (m : (ℓ : Loc Cert.InprojIdeal.nD Cert.InprojIdeal.τ Cert.InprojIdeal.sig) → Buf (Elt Ideal) ℓ) : Prop :=
  ∀ c : Dev Cert.InprojIdeal.nD,
    (Cert.Pre_finite3.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).1 = (fun _ => 1#1)
    ∧ (Cert.Pre_finite3.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).2.1 = (fun _ => 1#1)
    ∧ (Cert.Pre_finite3.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite3 [hPre_finite3 : Cert.Pre_finite3.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite3.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))).1 = (fun _ => 1#1)
    ∧ (Cert.Pre_finite3.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))).2.1 = (fun _ => 1#1)
    ∧ (Cert.Pre_finite3.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))).2.2 = (fun _ => 1#1)

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_finite4 [hPre_finite4 : Cert.Pre_finite4.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_finite4.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))).1 = (fun _ => 1#1)
    ∧ (Cert.Pre_finite4.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))).2 = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_finite4 [hPre_finite4 : Cert.Pre_finite4.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_finite4.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))).1 = (fun _ => 1#1)
    ∧ (Cert.Pre_finite4.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))).2 = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite5 [hPre_finite5 : Cert.Pre_finite5.Facts] (m : (ℓ : Loc Cert.RouterIdeal.nD Cert.RouterIdeal.τ Cert.RouterIdeal.sig) → Buf (Elt Ideal) ℓ) : Prop :=
  ∀ c : Dev Cert.RouterIdeal.nD,
    (Cert.Pre_finite5.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).1 = (fun _ => 1#1)
    ∧ (Cert.Pre_finite5.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite5 [hPre_finite5 : Cert.Pre_finite5.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite5.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).1 = (fun _ => 1#1)
    ∧ (Cert.Pre_finite5.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojIdeal_pre_finite3 [hInprojIdeal : Cert.InprojIdeal.Facts] [hPre_finite3 : Cert.Pre_finite3.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite3 m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_InprojRefIdeal_pre_finite3 [hInprojRefIdeal : Cert.InprojRefIdeal.Facts] [hPre_finite3 : Cert.Pre_finite3.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite3 m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_finite4 [hAdalnIdeal : Cert.AdalnIdeal.Facts] [hPre_finite4 : Cert.Pre_finite4.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_finite4 m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_AdalnRefIdeal_pre_finite4 [hAdalnRefIdeal : Cert.AdalnRefIdeal.Facts] [hPre_finite4 : Cert.Pre_finite4.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_finite4 m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite5 [hRouterIdeal : Cert.RouterIdeal.Facts] [hPre_finite5 : Cert.Pre_finite5.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite5 m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_finite5 [hRouterRefIdeal : Cert.RouterRefIdeal.Facts] [hPre_finite5 : Cert.Pre_finite5.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite5 m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def preserves_Attn_AttnIdeal : Prop :=
  IdealRules.named_const.Statement Cert.AttnIdeal.κ "mask" .f32 0xF1800000#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v81) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10))

def preserves_Inproj_InprojIdeal : Prop :=
  True

def algebraic_InprojIdeal_InprojRefIdeal_pre_finite3 [hInprojIdeal : Cert.InprojIdeal.Facts] [hInprojRefIdeal : Cert.InprojRefIdeal.Facts] [hPre_finite3 : Cert.Pre_finite3.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite3 m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v29_0)) (v1 : (c : Dev Cert.InprojIdeal.nD) → Buf (Elt Ideal) ((c.tc : Thread Cert.InprojIdeal.nD Cert.InprojIdeal.τ).loc Cert.InprojIdeal.main_v29_1)) (v2 : (c : Dev Cert.InprojIdeal.nD) → Buf (Elt Ideal) ((c.tc : Thread Cert.InprojIdeal.nD Cert.InprojIdeal.τ).loc Cert.InprojIdeal.main_v29_2)) (v3 : (c : Dev Cert.InprojIdeal.nD) → Buf (Elt Ideal) ((c.tc : Thread Cert.InprojIdeal.nD Cert.InprojIdeal.τ).loc Cert.InprojIdeal.main_v29_3)) (v4 : (c : Dev Cert.InprojIdeal.nD) → Buf (Elt Ideal) ((c.tc : Thread Cert.InprojIdeal.nD Cert.InprojIdeal.τ).loc Cert.InprojIdeal.main_v29_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v29_0) = v0 c
          ∧ r.2.mem ((c.tc : Thread Cert.InprojIdeal.nD Cert.InprojIdeal.τ).loc Cert.InprojIdeal.main_v29_1) = v1 c
          ∧ r.2.mem ((c.tc : Thread Cert.InprojIdeal.nD Cert.InprojIdeal.τ).loc Cert.InprojIdeal.main_v29_2) = v2 c
          ∧ r.2.mem ((c.tc : Thread Cert.InprojIdeal.nD Cert.InprojIdeal.τ).loc Cert.InprojIdeal.main_v29_3) = v3 c
          ∧ r.2.mem ((c.tc : Thread Cert.InprojIdeal.nD Cert.InprojIdeal.τ).loc Cert.InprojIdeal.main_v29_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v104) = v0 c
          ∧ r.2.mem ((c.tc : Thread Cert.InprojRefIdeal.nD Cert.InprojRefIdeal.τ).loc Cert.InprojRefIdeal.main_v106) = v1 c
          ∧ r.2.mem ((c.tc : Thread Cert.InprojRefIdeal.nD Cert.InprojRefIdeal.τ).loc Cert.InprojRefIdeal.main_v107) = v2 c
          ∧ r.2.mem ((c.tc : Thread Cert.InprojRefIdeal.nD Cert.InprojRefIdeal.τ).loc Cert.InprojRefIdeal.main_v108) = v3 c
          ∧ r.2.mem ((c.tc : Thread Cert.InprojRefIdeal.nD Cert.InprojRefIdeal.τ).loc Cert.InprojRefIdeal.main_v110) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Adaln_AdalnIdeal : Prop :=
  True

def algebraic_AdalnIdeal_AdalnRefIdeal_pre_finite4 [hAdalnIdeal : Cert.AdalnIdeal.Facts] [hAdalnRefIdeal : Cert.AdalnRefIdeal.Facts] [hPre_finite4 : Cert.Pre_finite4.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_finite4 m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v4) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Router_RouterIdeal : Prop :=
  True

def algebraic_RouterIdeal_RouterRefIdeal_pre_finite5 [hRouterIdeal : Cert.RouterIdeal.Facts] [hRouterRefIdeal : Cert.RouterRefIdeal.Facts] [hPre_finite5 : Cert.Pre_finite5.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite5 m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v65) = v0 c
          ∧ r.2.mem ((c.tc : Thread Cert.RouterRefIdeal.nD Cert.RouterRefIdeal.τ).loc Cert.RouterRefIdeal.main_v68) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hAdaln : Cert.Adaln.Facts) (hAdalnIdeal : Cert.AdalnIdeal.Facts) (hAdalnRefIdeal : Cert.AdalnRefIdeal.Facts) (hRouter : Cert.Router.Facts) (hRouterIdeal : Cert.RouterIdeal.Facts) (hRouterRefIdeal : Cert.RouterRefIdeal.Facts) (hPre_finite : Cert.Pre_finite.Facts) (hPre_finite3 : Cert.Pre_finite3.Facts) (hPre_finite4 : Cert.Pre_finite4.Facts) (hPre_finite5 : Cert.Pre_finite5.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Inproj (hInproj := hInproj)
    ∧ quiescent_InprojIdeal (hInprojIdeal := hInprojIdeal)
    ∧ quiescent_InprojIdeal_pre_finite3 (hInprojIdeal := hInprojIdeal) (hPre_finite3 := hPre_finite3)
    ∧ quiescent_InprojRefIdeal (hInprojRefIdeal := hInprojRefIdeal)
    ∧ quiescent_InprojRefIdeal_pre_finite3 (hInprojRefIdeal := hInprojRefIdeal) (hPre_finite3 := hPre_finite3)
    ∧ quiescent_Adaln (hAdaln := hAdaln)
    ∧ quiescent_AdalnIdeal (hAdalnIdeal := hAdalnIdeal)
    ∧ quiescent_AdalnIdeal_pre_finite4 (hAdalnIdeal := hAdalnIdeal) (hPre_finite4 := hPre_finite4)
    ∧ quiescent_AdalnRefIdeal (hAdalnRefIdeal := hAdalnRefIdeal)
    ∧ quiescent_AdalnRefIdeal_pre_finite4 (hAdalnRefIdeal := hAdalnRefIdeal) (hPre_finite4 := hPre_finite4)
    ∧ quiescent_Router (hRouter := hRouter)
    ∧ quiescent_RouterIdeal (hRouterIdeal := hRouterIdeal)
    ∧ quiescent_RouterIdeal_pre_finite5 (hRouterIdeal := hRouterIdeal) (hPre_finite5 := hPre_finite5)
    ∧ quiescent_RouterRefIdeal (hRouterRefIdeal := hRouterRefIdeal)
    ∧ quiescent_RouterRefIdeal_pre_finite5 (hRouterRefIdeal := hRouterRefIdeal) (hPre_finite5 := hPre_finite5)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Inproj_InprojIdeal
    ∧ algebraic_InprojIdeal_InprojRefIdeal_pre_finite3 (hInprojIdeal := hInprojIdeal) (hInprojRefIdeal := hInprojRefIdeal) (hPre_finite3 := hPre_finite3)
    ∧ preserves_Adaln_AdalnIdeal
    ∧ algebraic_AdalnIdeal_AdalnRefIdeal_pre_finite4 (hAdalnIdeal := hAdalnIdeal) (hAdalnRefIdeal := hAdalnRefIdeal) (hPre_finite4 := hPre_finite4)
    ∧ preserves_Router_RouterIdeal
    ∧ algebraic_RouterIdeal_RouterRefIdeal_pre_finite5 (hRouterIdeal := hRouterIdeal) (hRouterRefIdeal := hRouterRefIdeal) (hPre_finite5 := hPre_finite5)
-- ==== Pre_finite.lean ====
abbrev S2x8x8192x128 : Shape := ⟨4, ![2, 8, 8192, 128]⟩
abbrev S2x8192x512 : Shape := ⟨3, ![2, 8192, 512]⟩
abbrev S_ : Shape := ⟨0, ![]⟩

class Facts : Prop where
  bitsLt_bf16_f32 : FTy.bits .bf16 < FTy.bits .f32
  bcast_S_S2x8x8192x128 : S_.BroadcastsInDim S2x8x8192x128 (![] : Fin 0 → Fin S2x8x8192x128.rank)

variable [Facts]

def fn {F : FTy → Type} [FloatOps F] (main_arg0 : FVec F S2x8x8192x128 .bf16) (main_arg1 : FVec F S2x8x8192x128 .bf16) (main_arg2 : FVec F S2x8192x512 .bf16) : IVec S2x8x8192x128 1 × IVec S2x8x8192x128 1 :=
  let main_v0 : FVec F S2x8x8192x128 .f32 := (extf .f32 · bitsLt_bf16_f32) main_arg0
  let main_v1 : FVec F S2x8x8192x128 .f32 := Host.absf main_v0
  let main_cst : FVec F S_ .f32 := constant S_ .f32 0x7F800000#32
  let main_v2 : FVec F S2x8x8192x128 .f32 := broadcastInDim S2x8x8192x128 ![] bcast_S_S2x8x8192x128 main_cst
  let main_v3 : IVec S2x8x8192x128 1 := cmpf .olt main_v1 main_v2
  let main_v4 : FVec F S2x8x8192x128 .f32 := (extf .f32 · bitsLt_bf16_f32) main_arg1
  let main_v5 : FVec F S2x8x8192x128 .f32 := Host.absf main_v4
  let main_cst_0 : FVec F S_ .f32 := constant S_ .f32 0x7F800000#32
  let main_v6 : FVec F S2x8x8192x128 .f32 := broadcastInDim S2x8x8192x128 ![] bcast_S_S2x8x8192x128 main_cst_0
  let main_v7 : IVec S2x8x8192x128 1 := cmpf .olt main_v5 main_v6
  (main_v3, main_v7)
-- ==== Pre_finite3.lean ====
abbrev S2x8192x1024 : Shape := ⟨3, ![2, 8192, 1024]⟩
abbrev S2x1x6144 : Shape := ⟨3, ![2, 1, 6144]⟩
abbrev S1x1024 : Shape := ⟨2, ![1, 1024]⟩
abbrev S1024x2048 : Shape := ⟨2, ![1024, 2048]⟩
abbrev S2x1x2048 : Shape := ⟨3, ![2, 1, 2048]⟩
abbrev S_ : Shape := ⟨0, ![]⟩
abbrev S1024x1024 : Shape := ⟨2, ![1024, 1024]⟩

class Facts : Prop where
  slices_S2x1x6144_S2x1x2048_0_0_0 : S2x1x6144.Slices ![0, 0, 0] S2x1x2048
  bcast_S_S2x1x2048 : S_.BroadcastsInDim S2x1x2048 (![] : Fin 0 → Fin S2x1x2048.rank)
  bcast_S_S1x1024 : S_.BroadcastsInDim S1x1024 (![] : Fin 0 → Fin S1x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S2x8192x1024 .f32) (main_arg1 : FVec F S2x1x6144 .f32) (main_arg2 : FVec F S1x1024 .f32) (main_arg3 : FVec F S1024x2048 .f32) : IVec S2x1x2048 1 × IVec S1x1024 1 × IVec S1024x1024 1 :=
  let main_v0 : FVec F S2x1x2048 .f32 := (extractStridedSlice S2x1x2048 ![0, 0, 0] · slices_S2x1x6144_S2x1x2048_0_0_0) main_arg1
  let main_v1 : FVec F S2x1x2048 .f32 := Host.absf main_v0
  let main_cst : FVec F S_ .f32 := constant S_ .f32 0x7F800000#32
  let main_v2 : FVec F S2x1x2048 .f32 := broadcastInDim S2x1x2048 ![] bcast_S_S2x1x2048 main_cst
  let main_v3 : IVec S2x1x2048 1 := cmpf .olt main_v1 main_v2
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1024x1024 .f32 := (extractStridedSlice S1024x1024 ![0, 0] · slices_S1024x2048_S1024x1024_0_0) main_arg3
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v3, main_v6, main_v10)
-- ==== Pre_finite4.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  bcast_S_S1024x6144 : S_.BroadcastsInDim S1024x6144 (![] : Fin 0 → Fin S1024x6144.rank)

variable [Facts]

def fn {F : FTy → Type} [FloatOps F] (main_arg0 : FVec F S8x1024 .f32) (main_arg1 : FVec F S1024x6144 .f32) (main_arg2 : FVec F S6144 .f32) : IVec S8x1024 1 × IVec S1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Pre_finite5.lean ====
abbrev S2x8192x512 : Shape := ⟨3, ![2, 8192, 512]⟩
abbrev S2x32x512 : Shape := ⟨3, ![2, 32, 512]⟩
abbrev S_ : Shape := ⟨0, ![]⟩

class Facts : Prop where
  bcast_S_S2x8192x512 : S_.BroadcastsInDim S2x8192x512 (![] : Fin 0 → Fin S2x8192x512.rank)
  bcast_S_S2x32x512 : S_.BroadcastsInDim S2x32x512 (![] : Fin 0 → Fin S2x32x512.rank)

variable [Facts]

def fn {F : FTy → Type} [FloatOps F] (main_arg0 : FVec F S2x8192x512 .f32) (main_arg1 : FVec F S2x8192x512 .f32) (main_arg2 : FVec F S2x32x512 .f32) : IVec S2x8192x512 1 × IVec S2x32x512 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x32x512 .f32 := Host.absf main_arg2
  let main_cst_0 : FVec F S_ .f32 := constant S_ .f32 0x7F800000#32
  let main_v4 : FVec F S2x32x512 .f32 := broadcastInDim S2x32x512 ![] bcast_S_S2x32x512 main_cst_0
  let main_v5 : IVec S2x32x512 1 := cmpf .olt main_v3 main_v4
  (main_v2, main_v5)
-- ==== Attn.lean ====
abbrev S2x8x8192x128 : Shape := ⟨4, ![2, 8, 8192, 128]⟩
abbrev S2x8192x512 : Shape := ⟨3, ![2, 8192, 512]⟩
abbrev S1x2x256x128 : Shape := ⟨4, ![1, 2, 256, 128]⟩
abbrev S1x2x8192x128 : Shape := ⟨4, ![1, 2, 8192, 128]⟩
abbrev S1x8192x128 : Shape := ⟨3, ![1, 8192, 128]⟩
abbrev S1x256x128 : Shape := ⟨3, ![1, 256, 128]⟩
abbrev S256x256 : Shape := ⟨2, ![256, 256]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8192x512, .bf16⟩
  | .hbm, ⟨3, _⟩ => ⟨S2x8192x512, .f32⟩
  | .local _ .vmem, ⟨0, _⟩ => ⟨S1x2x256x128, .bf16⟩
  | .local _ .vmem, ⟨1, _⟩ => ⟨S1x2x256x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .f32⟩
  | .local _ .vmem, ⟨7, _⟩ => ⟨S1x256x128, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 4 → Nat :=
  let c0_3 : Index := 0#32
  let c0_4 : Index := 0#32
  let arg2 : BitVec 32 := BitVec.ofNat 32 (i 2).val
  let c256_i32 : BitVec 32 := 256#32
  let v3 : BitVec 32 := Scalar.muli arg2 c256_i32
  let v4 : BitVec 32 := v3
  let v7 : Index := Scalar.indexCast v4
  let c0_5 : Index := 0#32
  ![0, 0, v7.toNat, 0]
def k0_off2 (i : grid0.Coords) : Fin 3 → Nat :=
  let c0_9 : Index := 0#32
  let arg2 : BitVec 32 := BitVec.ofNat 32 (i 2).val
  let c256_i32 : BitVec 32 := 256#32
  let v3 : BitVec 32 := Scalar.muli arg2 c256_i32
  let v4 : BitVec 32 := v3
  let v21 : Index := Scalar.indexCast v4
  let c0_10 : Index := 0#32
  ![0, v21.toNat, 0]
@[reducible] def k0_t1_loop (i : grid0.Coords) : Scf.Loop 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_12 : BitVec 32 := 1#32
  ⟨c0_i32, v29, c1_i32_12⟩
def k0_mult2 (i : grid0.Coords) (k0_t1 : Fin (k0_t1_loop i).trips) : BitVec 32 :=
  let c0_i32 : BitVec 32 := 0#32
  let c1_i32_12 : BitVec 32 := 1#32
  let arg7 : BitVec 32 := Scf.iv c0_i32 c1_i32_12 k0_t1
  let c256_i32_41 : BitVec 32 := 256#32
  let v94 : BitVec 32 := Scalar.muli arg7 c256_i32_41
  v94
def k0_off3 (i : grid0.Coords) (k0_t1 : Fin (k0_t1_loop i).trips) : Fin 4 → Nat :=
  let c0_42 : Index := 0#32
  let c0_43 : Index := 0#32
  let c0_i32 : BitVec 32 := 0#32
  let c1_i32_12 : BitVec 32 := 1#32
  let arg7 : BitVec 32 := Scf.iv c0_i32 c1_i32_12 k0_t1
  let c256_i32_41 : BitVec 32 := 256#32
  let v94 : BitVec 32 := Scalar.muli arg7 c256_i32_41
  let v95 : BitVec 32 := v94
  let v96 : Index := Scalar.indexCast v95
  let c0_44 : Index := 0#32
  ![0, 0, v96.toNat, 0]
def k0_off4 (i : grid0.Coords) (k0_t1 : Fin (k0_t1_loop i).trips) : Fin 3 → Nat :=
  let c0_48 : Index := 0#32
  let c0_i32 : BitVec 32 := 0#32
  let c1_i32_12 : BitVec 32 := 1#32
  let arg7 : BitVec 32 := Scf.iv c0_i32 c1_i32_12 k0_t1
  let c256_i32_41 : BitVec 32 := 256#32
  let v94 : BitVec 32 := Scalar.muli arg7 c256_i32_41
  let v95 : BitVec 32 := v94
  let v115 : Index := Scalar.indexCast v95
  let c0_49 : Index := 0#32
  ![0, v115.toNat, 0]
@[reducible] def k0_t2_loop (i : grid0.Coords) : Scf.Loop 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let v26 : BitVec 32 := Scalar.addi c0_i32 v25
  let c1_i32_13 : BitVec 32 := 1#32
  ⟨v29, v26, c1_i32_13⟩
def k0_mult3 (i : grid0.Coords) (k0_t2 : Fin (k0_t2_loop i).trips) : BitVec 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_13 : BitVec 32 := 1#32
  let arg7 : BitVec 32 := Scf.iv v29 c1_i32_13 k0_t2
  let c256_i32_41 : BitVec 32 := 256#32
  let v94 : BitVec 32 := Scalar.muli arg7 c256_i32_41
  v94
def k0_off5 (i : grid0.Coords) (k0_t2 : Fin (k0_t2_loop i).trips) : Fin 4 → Nat :=
  let c0_42 : Index := 0#32
  let c0_43 : Index := 0#32
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_13 : BitVec 32 := 1#32
  let arg7 : BitVec 32 := Scf.iv v29 c1_i32_13 k0_t2
  let c256_i32_41 : BitVec 32 := 256#32
  let v94 : BitVec 32 := Scalar.muli arg7 c256_i32_41
  let v95 : BitVec 32 := v94
  let v96 : Index := Scalar.indexCast v95
  let c0_44 : Index := 0#32
  ![0, 0, v96.toNat, 0]
def k0_off6 (i : grid0.Coords) (k0_t2 : Fin (k0_t2_loop i).trips) : Fin 3 → Nat :=
  let c0_48 : Index := 0#32
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_13 : BitVec 32 := 1#32
  let arg7 : BitVec 32 := Scf.iv v29 c1_i32_13 k0_t2
  let c256_i32_41 : BitVec 32 := 256#32
  let v94 : BitVec 32 := Scalar.muli arg7 c256_i32_41
  let v95 : BitVec 32 := v94
  let v115 : Index := Scalar.indexCast v95
  let c0_49 : Index := 0#32
  ![0, v115.toNat, 0]
def k0_off7 (i : grid0.Coords) : Fin 4 → Nat :=
  let c0_17 : Index := 0#32
  let c1_18 : Index := 1#32
  let arg2 : BitVec 32 := BitVec.ofNat 32 (i 2).val
  let c256_i32 : BitVec 32 := 256#32
  let v3 : BitVec 32 := Scalar.muli arg2 c256_i32
  let v4 : BitVec 32 := v3
  let v36 : Index := Scalar.indexCast v4
  let c0_19 : Index := 0#32
  ![0, 1, v36.toNat, 0]
@[reducible] def k0_t3_loop (i : grid0.Coords) : Scf.Loop 32 :=
  let c0_i32_27 : BitVec 32 := 0#32
  let arg2 : BitVec 32 := BitVec.ofNat 32 (i 2).val
  let v54 : BitVec 32 := Scalar.subi arg2 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_29 : BitVec 32 := 1#32
  ⟨c0_i32_27, v58, c1_i32_29⟩
def k0_mult4 (i : grid0.Coords) (k0_t3 : Fin (k0_t3_loop i).trips) : BitVec 32 :=
  let c0_i32_27 : BitVec 32 := 0#32
  let c1_i32_29 : BitVec 32 := 1#32
  let arg7 : BitVec 32 := Scf.iv c0_i32_27 c1_i32_29 k0_t3
  let c256_i32_41 : BitVec 32 := 256#32
  let v94 : BitVec 32 := Scalar.muli arg7 c256_i32_41
  v94
def k0_off8 (i : grid0.Coords) (k0_t3 : Fin (k0_t3_loop i).trips) : Fin 4 → Nat :=
  let c0_42 : Index := 0#32
  let c1_43 : Index := 1#32
  let c0_i32_27 : BitVec 32 := 0#32
  let c1_i32_29 : BitVec 32 := 1#32
  let arg7 : BitVec 32 := Scf.iv c0_i32_27 c1_i32_29 k0_t3
  let c256_i32_41 : BitVec 32 := 256#32
  let v94 : BitVec 32 := Scalar.muli arg7 c256_i32_41
  let v95 : BitVec 32 := v94
  let v96 : Index := Scalar.indexCast v95
  let c0_44 : Index := 0#32
  ![0, 1, v96.toNat, 0]
def k0_off9 (i : grid0.Coords) (k0_t3 : Fin (k0_t3_loop i).trips) : Fin 3 → Nat :=
  let c0_48 : Index := 0#32
  let c0_i32_27 : BitVec 32 := 0#32
  let c1_i32_29 : BitVec 32 := 1#32
  let arg7 : BitVec 32 := Scf.iv c0_i32_27 c1_i32_29 k0_t3
  let c256_i32_41 : BitVec 32 := 256#32
  let v94 : BitVec 32 := Scalar.muli arg7 c256_i32_41
  let v95 : BitVec 32 := v94
  let v115 : Index := Scalar.indexCast v95
  let c0_49 : Index := 0#32
  ![0, v115.toNat, 0]
@[reducible] def k0_t4_loop (i : grid0.Coords) : Scf.Loop 32 :=
  let c0_i32_27 : BitVec 32 := 0#32
  let arg2 : BitVec 32 := BitVec.ofNat 32 (i 2).val
  let v54 : BitVec 32 := Scalar.subi arg2 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let v55 : BitVec 32 := Scalar.addi c0_i32_27 v54
  let c1_i32_30 : BitVec 32 := 1#32
  ⟨v58, v55, c1_i32_30⟩
def k0_mult5 (i : grid0.Coords) (k0_t4 : Fin (k0_t4_loop i).trips) : BitVec 32 :=
  let c0_i32_27 : BitVec 32 := 0#32
  let arg2 : BitVec 32 := BitVec.ofNat 32 (i 2).val
  let v54 : BitVec 32 := Scalar.subi arg2 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg7 : BitVec 32 := Scf.iv v58 c1_i32_30 k0_t4
  let c256_i32_41 : BitVec 32 := 256#32
  let v94 : BitVec 32 := Scalar.muli arg7 c256_i32_41
  v94
def k0_off10 (i : grid0.Coords) (k0_t4 : Fin (k0_t4_loop i).trips) : Fin 4 → Nat :=
  let c0_42 : Index := 0#32
  let c1_43 : Index := 1#32
  let c0_i32_27 : BitVec 32 := 0#32
  let arg2 : BitVec 32 := BitVec.ofNat 32 (i 2).val
  let v54 : BitVec 32 := Scalar.subi arg2 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg7 : BitVec 32 := Scf.iv v58 c1_i32_30 k0_t4
  let c256_i32_41 : BitVec 32 := 256#32
  let v94 : BitVec 32 := Scalar.muli arg7 c256_i32_41
  let v95 : BitVec 32 := v94
  let v96 : Index := Scalar.indexCast v95
  let c0_44 : Index := 0#32
  ![0, 1, v96.toNat, 0]
def k0_off11 (i : grid0.Coords) (k0_t4 : Fin (k0_t4_loop i).trips) : Fin 3 → Nat :=
  let c0_48 : Index := 0#32
  let c0_i32_27 : BitVec 32 := 0#32
  let arg2 : BitVec 32 := BitVec.ofNat 32 (i 2).val
  let v54 : BitVec 32 := Scalar.subi arg2 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg7 : BitVec 32 := Scf.iv v58 c1_i32_30 k0_t4
  let c256_i32_41 : BitVec 32 := 256#32
  let v94 : BitVec 32 := Scalar.muli arg7 c256_i32_41
  let v95 : BitVec 32 := v94
  let v115 : Index := Scalar.indexCast v95
  let c0_49 : Index := 0#32
  ![0, v115.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S2x8x8192x128 : Shape := ⟨4, ![2, 8, 8192, 128]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x8192x512, .bf16⟩
  | .hbm, ⟨3, _⟩ => ⟨S2x8192x512, .f32⟩
  | .hbm, ⟨4, _⟩ => ⟨S2x8192x8x64, .f32⟩
  | .hbm, ⟨5, _⟩ => ⟨S2x8x8192x64, .f32⟩
  | .hbm, ⟨6, _⟩ => ⟨S2x8x8192x128, .f32⟩
  | .hbm, ⟨7, _⟩ => ⟨S2x8x8192x128, .f32⟩
  | .hbm, ⟨8, _⟩ => ⟨S2x8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S2x8x8192x8192, .i1⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192, .f32⟩
  | .hbm, ⟨22, _⟩ => ⟨S_, .f32⟩
  | .hbm, ⟨23, _⟩ => ⟨S2x8x8192, .f32⟩
  | .hbm, ⟨24, _⟩ => ⟨S2x8x8192, .f32⟩
  | .hbm, ⟨25, _⟩ => ⟨S2x8x8192x1, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S_, .f32⟩
  | .hbm, ⟨30, _⟩ => ⟨S2x8x8192, .f32⟩
  | .hbm, ⟨31, _⟩ => ⟨S2x8x8192x1, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .bf16⟩
  | .hbm, ⟨35, _⟩ => ⟨S2x8x8192x8192, .f32⟩
  | .hbm, ⟨36, _⟩ => ⟨S2x8x8192x64, .f32⟩
  | .hbm, ⟨37, _⟩ => ⟨S2x8192x8x64, .f32⟩
  | .hbm, ⟨38, _⟩ => ⟨S2x8192x512, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Mlp.lean ====
abbrev S2x8192x1024 : Shape := ⟨3, ![2, 8192, 1024]⟩
abbrev S2x8192x512 : Shape := ⟨3, ![2, 8192, 512]⟩
abbrev S2x1024x4096 : Shape := ⟨3, ![2, 1024, 4096]⟩
abbrev S2x1x6144 : Shape := ⟨3, ![2, 1, 6144]⟩
abbrev S1x512 : Shape := ⟨2, ![1, 512]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1x256x1024 : Shape := ⟨3, ![1, 256, 1024]⟩
abbrev S1x256x512 : Shape := ⟨3, ![1, 256, 512]⟩
abbrev S1x1x6144 : Shape := ⟨3, ![1, 1, 6144]⟩
abbrev S256x1024 : Shape := ⟨2, ![256, 1024]⟩
abbrev S1x1x1024 : Shape := ⟨3, ![1, 1, 1024]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩

abbrev nBuf : Space → Nat
  | .hbm => 12
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x1024x4096, .f32⟩
  | .hbm, ⟨3, _⟩ => ⟨S2x1x6144, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x6144, .f32⟩
  | .local _ .vmem, ⟨7, _⟩ => ⟨S1x1x6144, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S1x256x1024, .f32⟩
  | .local _ .vmem, ⟨16, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MlpRefIdeal.lean ====
abbrev S2x8192x1024 : Shape := ⟨3, ![2, 8192, 1024]⟩
abbrev S2x8192x512 : Shape := ⟨3, ![2, 8192, 512]⟩
abbrev S2x1024x4096 : Shape := ⟨3, ![2, 1024, 4096]⟩
abbrev S2x1x6144 : Shape := ⟨3, ![2, 1, 6144]⟩
abbrev S1x512 : Shape := ⟨2, ![1, 512]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S2x1024x8x512 : Shape := ⟨4, ![2, 1024, 8, 512]⟩
abbrev S2x8x1024x512 : Shape := ⟨4, ![2, 8, 1024, 512]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S2x8192x4096 : Shape := ⟨3, ![2, 8192, 4096]⟩

abbrev nBuf : Space → Nat
  | .hbm => 108
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x1024x4096, .f32⟩
  | .hbm, ⟨3, _⟩ => ⟨S2x1x6144, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S2x1024x8x512, .f32⟩
  | .hbm, ⟨12, _⟩ => ⟨S2x8x1024x512, .f32⟩
  | .hbm, ⟨13, _⟩ => ⟨S2x8192x512, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x8192x512, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x512, .f32⟩
  | .hbm, ⟨32, _⟩ => ⟨S2x8192x512, .f32⟩
  | .hbm, ⟨33, _⟩ => ⟨S1x1x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x512, .f32⟩
  | .hbm, ⟨48, _⟩ => ⟨S2x8192x512, .f32⟩
  | .hbm, ⟨49, _⟩ => ⟨S1x1x512, .f32⟩
  | .hbm, ⟨50, _⟩ => ⟨S2x8192x512, .f32⟩
  | .hbm, ⟨51, _⟩ => ⟨S2x8192x512, .f32⟩
  | .hbm, ⟨52, _⟩ => ⟨S2x8192x1024, .f32⟩
  | .hbm, ⟨53, _⟩ => ⟨S1024x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x1x1024, .f32⟩
  | .hbm, ⟨76, _⟩ => ⟨S2x1x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S1024x4096, .f32⟩
  | .hbm, ⟨82, _⟩ => ⟨S2x8192x4096, .f32⟩
  | .hbm, ⟨83, _⟩ => ⟨S_, .f32⟩
  | .hbm, ⟨84, _⟩ => ⟨S2x8192x4096, .f32⟩
  | .hbm, ⟨85, _⟩ => ⟨S2x8192x4096, .f32⟩
  | .hbm, ⟨86, _⟩ => ⟨S2x8192x4096, .f32⟩
  | .hbm, ⟨87, _⟩ => ⟨S4096x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S_, .f32⟩
  | .hbm, ⟨94, _⟩ => ⟨S2x8192, .f32⟩
  | .hbm, ⟨95, _⟩ => ⟨S2x8192x1, .f32⟩
  | .hbm, ⟨96, _⟩ => ⟨S_, .f32⟩
  | .hbm, ⟨97, _⟩ => ⟨S2x8192x1, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S2x8192x1, .f32⟩
  | .hbm, ⟨103, _⟩ => ⟨S2x8192x1024, .f32⟩
  | .hbm, ⟨104, _⟩ => ⟨S2x8192x1024, .f32⟩
  | .hbm, ⟨105, _⟩ => ⟨S1x1x1024, .f32⟩
  | .hbm, ⟨106, _⟩ => ⟨S2x8192x1024, .f32⟩
  | .hbm, ⟨107, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call0_cst : Ref sig .tc := ⟨.hbm, 83, rfl⟩
abbrev main_call0_v0 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_9 : Ref sig .tc := ⟨.hbm, 93, rfl⟩
abbrev main_v70 : Ref sig .tc := ⟨.hbm, 94, rfl⟩
abbrev main_v71 : Ref sig .tc := ⟨.hbm, 95, rfl⟩
abbrev main_cst_10 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]
-- ==== Inproj.lean ====
abbrev S2x8192x1024 : Shape := ⟨3, ![2, 8192, 1024]⟩
abbrev S2x1x6144 : Shape := ⟨3, ![2, 1, 6144]⟩
abbrev S1x1024 : Shape := ⟨2, ![1, 1024]⟩
abbrev S1024x2048 : Shape := ⟨2, ![1024, 2048]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1024x1024 : Shape := ⟨2, ![1024, 1024]⟩
abbrev S2x8192x512 : Shape := ⟨3, ![2, 8192, 512]⟩
abbrev S2x1024x4096 : Shape := ⟨3, ![2, 1024, 4096]⟩
abbrev S2x32x1x512 : Shape := ⟨4, ![2, 32, 1, 512]⟩
abbrev S1x256x1024 : Shape := ⟨3, ![1, 256, 1024]⟩
abbrev S1x1x6144 : Shape := ⟨3, ![1, 1, 6144]⟩
abbrev S256x128 : Shape := ⟨2, ![256, 128]⟩
abbrev S1x256x512 : Shape := ⟨3, ![1, 256, 512]⟩
abbrev S1x1x1x512 : Shape := ⟨4, ![1, 1, 1, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x512 : Shape := ⟨2, ![256, 512]⟩
abbrev S512 : Shape := ⟨1, ![512]⟩
abbrev S1x512 : Shape := ⟨2, ![1, 512]⟩

abbrev nBuf : Space → Nat
  | .hbm => 40
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1x1024, .f32⟩
  | .hbm, ⟨3, _⟩ => ⟨S1024x2048, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S1x8192x1x32, .f32⟩
  | .hbm, ⟨21, _⟩ => ⟨S1x8192x4x32, .f32⟩
  | .hbm, ⟨22, _⟩ => ⟨S8192x128, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S2x8192x512, .f32⟩
  | .hbm, ⟨36, _⟩ => ⟨S2x8192x512, .f32⟩
  | .hbm, ⟨37, _⟩ => ⟨S2x8192x512, .bf16⟩
  | .hbm, ⟨38, _⟩ => ⟨S2x1024x4096, .bf16⟩
  | .hbm, ⟨39, _⟩ => ⟨S2x32x1x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x1x1x512, .f32⟩
  | .local _ .vmem, ⟨21, _⟩ => ⟨S1x1x1x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev main_v29_2 : Ref sig .tc := ⟨.hbm, 37, rfl⟩
abbrev main_v29_3 : Ref sig .tc := ⟨.hbm, 38, rfl⟩
abbrev main_v29_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InprojRefIdeal.lean ====
abbrev S2x8192x1024 : Shape := ⟨3, ![2, 8192, 1024]⟩
abbrev S2x1x6144 : Shape := ⟨3, ![2, 1, 6144]⟩
abbrev S1x1024 : Shape := ⟨2, ![1, 1024]⟩
abbrev S1024x2048 : Shape := ⟨2, ![1024, 2048]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S2x8x8192x32 : Shape := ⟨4, ![2, 8, 8192, 32]⟩
abbrev S1x1x8192x32 : Shape := ⟨4, ![1, 1, 8192, 32]⟩
abbrev S2x8x32x256x64 : Shape := ⟨5, ![2, 8, 32, 256, 64]⟩
abbrev S2x8x32x64 : Shape := ⟨4, ![2, 8, 32, 64]⟩
abbrev S2x8x1024x512 : Shape := ⟨4, ![2, 8, 1024, 512]⟩
abbrev S2x1024x8x512 : Shape := ⟨4, ![2, 1024, 8, 512]⟩
abbrev S2x1024x4096 : Shape := ⟨3, ![2, 1024, 4096]⟩
abbrev S2x32x8x64 : Shape := ⟨4, ![2, 32, 8, 64]⟩
abbrev S2x32x1x512 : Shape := ⟨4, ![2, 32, 1, 512]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1x1024, .f32⟩
  | .hbm, ⟨3, _⟩ => ⟨S1024x2048, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x2048, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x8x64, .f32⟩
  | .hbm, ⟨39, _⟩ => ⟨S2x8x8192x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8192, .f32⟩
  | .hbm, ⟨49, _⟩ => ⟨S8192x1, .f32⟩
  | .hbm, ⟨50, _⟩ => ⟨S1x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S2x8x8192x32, .f32⟩
  | .hbm, ⟨57, _⟩ => ⟨S2x8x8192x32, .f32⟩
  | .hbm, ⟨58, _⟩ => ⟨S1x1x8192x32, .f32⟩
  | .hbm, ⟨59, _⟩ => ⟨S2x8x8192x32, .f32⟩
  | .hbm, ⟨60, _⟩ => ⟨S2x8x8192x32, .f32⟩
  | .hbm, ⟨61, _⟩ => ⟨S1x1x8192x32, .f32⟩
  | .hbm, ⟨62, _⟩ => ⟨S2x8x8192x32, .f32⟩
  | .hbm, ⟨63, _⟩ => ⟨S2x8x8192x32, .f32⟩
  | .hbm, ⟨64, _⟩ => ⟨S2x8x8192x32, .f32⟩
  | .hbm, ⟨65, _⟩ => ⟨S1x1x8192x32, .f32⟩
  | .hbm, ⟨66, _⟩ => ⟨S2x8x8192x32, .f32⟩
  | .hbm, ⟨67, _⟩ => ⟨S2x8x8192x32, .f32⟩
  | .hbm, ⟨68, _⟩ => ⟨S1x1x8192x32, .f32⟩
  | .hbm, ⟨69, _⟩ => ⟨S2x8x8192x32, .f32⟩
  | .hbm, ⟨70, _⟩ => ⟨S2x8x8192x32, .f32⟩
  | .hbm, ⟨71, _⟩ => ⟨S2x8x8192x32, .f32⟩
  | .hbm, ⟨72, _⟩ => ⟨S2x8x8192x64, .f32⟩
  | .hbm, ⟨73, _⟩ => ⟨S2x8192x8x64, .f32⟩
  | .hbm, ⟨74, _⟩ => ⟨S2x8x8192x64, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S8192, .f32⟩
  | .hbm, ⟨84, _⟩ => ⟨S8192x1, .f32⟩
  | .hbm, ⟨85, _⟩ => ⟨S1x32, .f32⟩
  | .hbm, ⟨86, _⟩ => ⟨S8192x32, .f32⟩
  | .hbm, ⟨87, _⟩ => ⟨S8192x32, .f32⟩
  | .hbm, ⟨88, _⟩ => ⟨S8192x32, .f32⟩
  | .hbm, ⟨89, _⟩ => ⟨S8192x32, .f32⟩
  | .hbm, ⟨90, _⟩ => ⟨S8192x32, .f32⟩
  | .hbm, ⟨91, _⟩ => ⟨S2x8x8192x32, .f32⟩
  | .hbm, ⟨92, _⟩ => ⟨S2x8x8192x32, .f32⟩
  | .hbm, ⟨93, _⟩ => ⟨S1x1x8192x32, .f32⟩
  | .hbm, ⟨94, _⟩ => ⟨S2x8x8192x32, .f32⟩
  | .hbm, ⟨95, _⟩ => ⟨S2x8x8192x32, .f32⟩
  | .hbm, ⟨96, _⟩ => ⟨S1x1x8192x32, .f32⟩
  | .hbm, ⟨97, _⟩ => ⟨S2x8x8192x32, .f32⟩
  | .hbm, ⟨98, _⟩ => ⟨S2x8x8192x32, .f32⟩
  | .hbm, ⟨99, _⟩ => ⟨S2x8x8192x32, .f32⟩
  | .hbm, ⟨100, _⟩ => ⟨S1x1x8192x32, .f32⟩
  | .hbm, ⟨101, _⟩ => ⟨S2x8x8192x32, .f32⟩
  | .hbm, ⟨102, _⟩ => ⟨S2x8x8192x32, .f32⟩
  | .hbm, ⟨103, _⟩ => ⟨S1x1x8192x32, .f32⟩
  | .hbm, ⟨104, _⟩ => ⟨S2x8x8192x32, .f32⟩
  | .hbm, ⟨105, _⟩ => ⟨S2x8x8192x32, .f32⟩
  | .hbm, ⟨106, _⟩ => ⟨S2x8x8192x32, .f32⟩
  | .hbm, ⟨107, _⟩ => ⟨S2x8x8192x64, .f32⟩
  | .hbm, ⟨108, _⟩ => ⟨S2x8x32x256x64, .f32⟩
  | .hbm, ⟨109, _⟩ => ⟨S_, .f32⟩
  | .hbm, ⟨110, _⟩ => ⟨S2x8x32x64, .f32⟩
  | .hbm, ⟨111, _⟩ => ⟨S_, .f32⟩
  | .hbm, ⟨112, _⟩ => ⟨S2x8x32x64, .f32⟩
  | .hbm, ⟨113, _⟩ => ⟨S2x8x32x64, .f32⟩
  | .hbm, ⟨114, _⟩ => ⟨S2x8x1024x512, .f32⟩
  | .hbm, ⟨115, _⟩ => ⟨S2x1024x8x512, .f32⟩
  | .hbm, ⟨116, _⟩ => ⟨S2x1024x4096, .f32⟩
  | .hbm, ⟨117, _⟩ => ⟨S2x8192x8x64, .f32⟩
  | .hbm, ⟨118, _⟩ => ⟨S2x8192x512, .f32⟩
  | .hbm, ⟨119, _⟩ => ⟨S2x8192x8x64, .f32⟩
  | .hbm, ⟨120, _⟩ => ⟨S2x8192x512, .f32⟩
  | .hbm, ⟨121, _⟩ => ⟨S2x8192x512, .bf16⟩
  | .hbm, ⟨122, _⟩ => ⟨S2x1024x4096, .bf16⟩
  | .hbm, ⟨123, _⟩ => ⟨S2x32x8x64, .f32⟩
  | .hbm, ⟨124, _⟩ => ⟨S2x32x1x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_7 : Ref sig .tc := ⟨.hbm, 109, rfl⟩
abbrev main_v97 : Ref sig .tc := ⟨.hbm, 110, rfl⟩
abbrev main_cst_8 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩

abbrev nD : Nat := 1
abbrev τ : Topo := Topo.v7x

variable {F : FTy → Type} [FloatOps F]
-- ==== Adaln.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Router.lean ====
abbrev S2x8192x512 : Shape := ⟨3, ![2, 8192, 512]⟩
abbrev S2x32x512 : Shape := ⟨3, ![2, 32, 512]⟩
abbrev S2x8x8192x128 : Shape := ⟨4, ![2, 8, 8192, 128]⟩
abbrev S1x256x128 : Shape := ⟨3, ![1, 256, 128]⟩
abbrev S1x32x128 : Shape := ⟨3, ![1, 32, 128]⟩
abbrev S1x2x256x128 : Shape := ⟨4, ![1, 2, 256, 128]⟩
abbrev S256x128 : Shape := ⟨2, ![256, 128]⟩
abbrev S32x128 : Shape := ⟨2, ![32, 128]⟩
abbrev S32x256 : Shape := ⟨2, ![32, 256]⟩
abbrev S1x256 : Shape := ⟨2, ![1, 256]⟩
abbrev S64x256 : Shape := ⟨2, ![64, 256]⟩
abbrev S128x256 : Shape := ⟨2, ![128, 256]⟩
abbrev S1x1x256x128 : Shape := ⟨4, ![1, 1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x32x512, .f32⟩
  | .hbm, ⟨3, _⟩ => ⟨S2x8x8192x128, .bf16⟩
  | .hbm, ⟨4, _⟩ => ⟨S2x8x8192x128, .bf16⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x32x128, .f32⟩
  | .local _ .vmem, ⟨5, _⟩ => ⟨S1x32x128, .f32⟩
  | .local _ .vmem, ⟨6, _⟩ => ⟨S1x2x256x128, .bf16⟩
  | .local _ .vmem, ⟨7, _⟩ => ⟨S1x2x256x128, .bf16⟩
  | .local _ .vmem, ⟨8, _⟩ => ⟨S1x2x256x128, .bf16⟩
  | .local _ .vmem, ⟨9, _⟩ => ⟨S1x2x256x128, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== RouterRefIdeal.lean ====
abbrev S2x8192x512 : Shape := ⟨3, ![2, 8192, 512]⟩
abbrev S2x32x512 : Shape := ⟨3, ![2, 32, 512]⟩
abbrev S2x8192x8x64 : Shape := ⟨4, ![2, 8192, 8, 64]⟩
abbrev S2x8x8192x64 : Shape := ⟨4, ![2, 8, 8192, 64]⟩
abbrev S2x32x8x64 : Shape := ⟨4, ![2, 32, 8, 64]⟩
abbrev S2x8x32x64 : Shape := ⟨4, ![2, 8, 32, 64]⟩
abbrev S2x8x8192x32 : Shape := ⟨4, ![2, 8, 8192, 32]⟩
abbrev S32 : Shape := ⟨1, ![32]⟩
abbrev S1x32 : Shape := ⟨2, ![1, 32]⟩
abbrev S8192 : Shape := ⟨1, ![8192]⟩
abbrev S_ : Shape := ⟨0, ![]⟩
abbrev S8192x1 : Shape := ⟨2, ![8192, 1]⟩
abbrev S8192x32 : Shape := ⟨2, ![8192, 32]⟩
abbrev S2x8x8192x3 : Shape := ⟨4, ![2, 8, 8192, 3]⟩
abbrev S2x8x8192x1 : Shape := ⟨4, ![2, 8, 8192, 1]⟩
abbrev S1x1x1x32 : Shape := ⟨4, ![1, 1, 1, 32]⟩
abbrev S1x1x8192x1 : Shape := ⟨4, ![1, 1, 8192, 1]⟩
abbrev S1x1x8192x32 : Shape := ⟨4, ![1, 1, 8192, 32]⟩
abbrev S2x8x8192x128 : Shape := ⟨4, ![2, 8, 8192, 128]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x32x512, .f32⟩
  | .hbm, ⟨3, _⟩ => ⟨S2x8192x8x64, .f32⟩
  | .hbm, ⟨4, _⟩ => ⟨S2x8x8192x64, .f32⟩
  | .hbm, ⟨5, _⟩ => ⟨S2x8192x8x64, .f32⟩
  | .hbm, ⟨6, _⟩ => ⟨S2x8x8192x64, .f32⟩
  | .hbm, ⟨7, _⟩ => ⟨S2x32x8x64, .f32⟩
  | .hbm, ⟨8, _⟩ => ⟨S2x8x32x64, .f32⟩
  | .hbm, ⟨9, _⟩ => ⟨S2x8x8192x32, .f32⟩
  | .hbm, ⟨10, _⟩ => ⟨S32, .i32⟩
  | .hbm, ⟨11, _⟩ => ⟨S1x32, .i32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192x32, .i32⟩
  | .hbm, ⟨33, _⟩ => ⟨S8192x32, .i32⟩
  | .hbm, ⟨34, _⟩ => ⟨S8192x32, .i1⟩
  | .hbm, ⟨35, _⟩ => ⟨S_, .f32⟩
  | .hbm, ⟨36, _⟩ => ⟨S_, .f32⟩
  | .hbm, ⟨37, _⟩ => ⟨S2x8x8192x32, .i1⟩
  | .hbm, ⟨38, _⟩ => ⟨S2x8x8192x32, .f32⟩
  | .hbm, ⟨39, _⟩ => ⟨S2x8x8192x32, .f32⟩
  | .hbm, ⟨40, _⟩ => ⟨S2x8x8192x3, .f32⟩
  | .hbm, ⟨41, _⟩ => ⟨S2x8x8192x3, .i32⟩
  | .hbm, ⟨42, _⟩ => ⟨S2x8x8192x1, .i32⟩
  | .hbm, ⟨43, _⟩ => ⟨S1x1x1x32, .i32⟩
  | .hbm, ⟨44, _⟩ => ⟨S2x8x8192x32, .i32⟩
  | .hbm, ⟨45, _⟩ => ⟨S2x8x8192x32, .i32⟩
  | .hbm, ⟨46, _⟩ => ⟨S2x8x8192x32, .i1⟩
  | .hbm, ⟨47, _⟩ => ⟨S1x1x8192x1, .i32⟩
  | .hbm, ⟨48, _⟩ => ⟨S2x8x8192x1, .i32⟩
  | .hbm, ⟨49, _⟩ => ⟨S2x8x8192x1, .i1⟩
  | .hbm, ⟨50, _⟩ => ⟨S2x8x8192x32, .i1⟩
  | .hbm, ⟨51, _⟩ => ⟨S2x8x8192x32, .i1⟩
  | .hbm, ⟨52, _⟩ => ⟨S2x8x8192x1, .i32⟩
  | .hbm, ⟨53, _⟩ => ⟨S1x1x1x32, .i32⟩
  | .hbm, ⟨54, _⟩ => ⟨S2x8x8192x32, .i32⟩
  | .hbm, ⟨55, _⟩ => ⟨S2x8x8192x32, .i32⟩
  | .hbm, ⟨56, _⟩ => ⟨S2x8x8192x32, .i1⟩
  | .hbm, ⟨57, _⟩ => ⟨S1x1x8192x1, .i32⟩
  | .hbm, ⟨58, _⟩ => ⟨S2x8x8192x1, .i32⟩
  | .hbm, ⟨59, _⟩ => ⟨S2x8x8192x1, .i1⟩
  | .hbm, ⟨60, _⟩ => ⟨S2x8x8192x32, .i1⟩
  | .hbm, ⟨61, _⟩ => ⟨S2x8x8192x32, .i1⟩
  | .hbm, ⟨62, _⟩ => ⟨S2x8x8192x32, .i1⟩
  | .hbm, ⟨63, _⟩ => ⟨S2x8x8192x1, .i32⟩
  | .hbm, ⟨64, _⟩ => ⟨S1x1x1x32, .i32⟩
  | .hbm, ⟨65, _⟩ => ⟨S2x8x8192x32, .i32⟩
  | .hbm, ⟨66, _⟩ => ⟨S2x8x8192x32, .i32⟩
  | .hbm, ⟨67, _⟩ => ⟨S2x8x8192x32, .i1⟩
  | .hbm, ⟨68, _⟩ => ⟨S1x1x8192x1, .i32⟩
  | .hbm, ⟨69, _⟩ => ⟨S2x8x8192x1, .i32⟩
  | .hbm, ⟨70, _⟩ => ⟨S2x8x8192x1, .i1⟩
  | .hbm, ⟨71, _⟩ => ⟨S2x8x8192x32, .i1⟩
  | .hbm, ⟨72, _⟩ => ⟨S2x8x8192x32, .i1⟩
  | .hbm, ⟨73, _⟩ => ⟨S2x8x8192x32, .i1⟩
  | .hbm, ⟨74, _⟩ => ⟨S8192x32, .i32⟩
  | .hbm, ⟨75, _⟩ => ⟨S8192x32, .i32⟩
  | .hbm, ⟨76, _⟩ => ⟨S8192x32, .i1⟩
  | .hbm, ⟨77, _⟩ => ⟨S1x1x8192x32, .i1⟩
  | .hbm, ⟨78, _⟩ => ⟨S2x8x8192x32, .i1⟩
  | .hbm, ⟨79, _⟩ => ⟨S2x8x8192x32, .i1⟩
  | .hbm, ⟨80, _⟩ => ⟨S_, .f32⟩
  | .hbm, ⟨81, _⟩ => ⟨S_, .f32⟩
  | .hbm, ⟨82, _⟩ => ⟨S2x8x8192x32, .f32⟩
  | .hbm, ⟨83, _⟩ => ⟨S2x8x8192x32, .f32⟩
  | .hbm, ⟨84, _⟩ => ⟨S2x8x8192x32, .f32⟩
  | .hbm, ⟨85, _⟩ => ⟨S8192x32, .i32⟩
  | .hbm, ⟨86, _⟩ => ⟨S8192x32, .i32⟩
  | .hbm, ⟨87, _⟩ => ⟨S8192x32, .i1⟩
  | .hbm, ⟨88, _⟩ => ⟨S_, .f32⟩
  | .hbm, ⟨89, _⟩ => ⟨S_, .f32⟩
  | .hbm, ⟨90, _⟩ => ⟨S8192x32, .f32⟩
  | .hbm, ⟨91, _⟩ => ⟨S8192x32, .f32⟩
  | .hbm, ⟨92, _⟩ => ⟨S8192x32, .f32⟩
  | .hbm, ⟨93, _⟩ => ⟨S2x8x8192x32, .f32⟩
  | .hbm, ⟨94, _⟩ => ⟨S_, .f32⟩
  | .hbm, ⟨95, _⟩ => ⟨S2x8x8192x32, .f32⟩
  | .hbm, ⟨96, _⟩ => ⟨S_, .f32⟩
  | .hbm, ⟨97, _⟩ => ⟨S2x8x8192x64, .f32⟩
  | .hbm, ⟨98, _⟩ => ⟨S2x8x8192x64, .f32⟩
  | .hbm, ⟨99, _⟩ => ⟨S2x8x8192x32, .f32⟩
  | .hbm, ⟨100, _⟩ => ⟨S2x8x8192x128, .f32⟩
  | .hbm, ⟨101, _⟩ => ⟨S2x8x8192x128, .bf16⟩
  | .hbm, ⟨102, _⟩ => ⟨S2x8x8192x32, .f32⟩
  | .hbm, ⟨103, _⟩ => ⟨S2x8x8192x128, .f32⟩
  | .hbm, ⟨104, _⟩ => ⟨S2x8x8192x128, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_values : Ref sig .tc := ⟨.hbm, 40, rfl⟩
abbrev main_indices : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_0 : Ref sig .tc := ⟨.hbm, 80, rfl⟩
abbrev main_cst_1 : Ref sig .tc := ⟨.hbm, 81, rfl⟩
abbrev main_call2_v0 : Ref sig .tc := ⟨.hbm, 82, rfl⟩
abbrev main_call2_v1 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_2 : Ref sig .tc := ⟨.hbm, 88, rfl⟩
abbrev main_cst_3 : Ref sig .tc := ⟨.hbm, 89, rfl⟩
abbrev main_call3_v0 : Ref sig .tc := ⟨.hbm, 90, rfl⟩
abbrev main_call3_v1 : Ref sig .tc := ⟨.hbm, 91, rfl⟩
abbrev main_v58 : Ref sig .tc := ⟨.hbm, 92, rfl⟩
abbrev main_v59 : Ref sig .tc := ⟨.hbm, 93, rfl⟩
abbrev main_cst_4 : Ref sig .tc := ⟨.hbm, 94, rfl⟩
abbrev main_v60 : Ref sig .tc := ⟨.hbm, 95, rfl⟩
abbrev main_cst_5 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== Proof.AttnTrips.lean ====
/-
  What the body of the attention does at a grid point, as a walk over blocks of keys: the own block gives the first
  values carried, and each trip of a head's loop meets one earlier block. Both heads take the same steps.
-/
module

public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem

variable {F : FTy → Type} [FloatOps F] [Named F]

/-- What a head carries from block to block: per row the greatest score and the sum of the weights, and per row and
    column the weighted sum of the values. -/
abbrev Acc (F : FTy → Type) := FVec F S256x1 .f32 × FVec F S256x1 .f32 × FVec F S256x128 .f32

/-- Block `n` of the keys of head `h` of the pair. -/
def keyBlock (x1 : Vec F S1x2x8192x128 .bf16) (h : Fin 2) (n : ℕ) : Vec F S1x1x256x128 .bf16 := fun j =>
  x1 (ix4 0 h ⟨(256 * n + (j 2).val) % 8192, Nat.mod_lt _ (by decide)⟩ (j 3))

/-- Block `n` of the values. -/
def valBlock (x2 : Vec F S1x8192x128 .bf16) (n : ℕ) : Vec F S1x256x128 .bf16 := fun j =>
  x2 (ix3 0 ⟨(256 * n + (j 1).val) % 8192, Nat.mod_lt _ (by decide)⟩ (j 2))

/-- The query rows of head `h` of the pair. -/
def queryRows (x0 : Vec F S1x2x256x128 .bf16) (h : Fin 2) : Vec F S1x1x256x128 .bf16 := fun j =>
  x0 (ix4 0 h (j 2) (j 3))

/-- The own block's values carried. -/
def start (q kb : Vec F S1x1x256x128 .bf16) (vb : Vec F S1x256x128 .bf16) : Acc F :=
  (k0_pay5 q kb, k0_pay7 q kb, k0_pay8 q kb vb)

/-- One earlier block met. -/
def step (q : Vec F S1x1x256x128 .bf16) (acc : Acc F) (kb : Vec F S1x1x256x128 .bf16) (vb : Vec F S1x256x128 .bf16) : Acc F :=
  (k0_pay10 q acc.1 kb, k0_pay13 q acc.1 acc.2.1 kb, k0_pay14 q acc.1 acc.2.2 kb vb)

/-- The own block `b`, then the blocks below `n`, in order. -/
def walk (q : Vec F S1x1x256x128 .bf16) (kb : ℕ → Vec F S1x1x256x128 .bf16) (vb : ℕ → Vec F S1x256x128 .bf16) (b : ℕ) : ℕ → Acc F
  | 0 => start q (kb b) (vb b)
  | n + 1 => step q (walk q kb vb b n) (kb n) (vb n)

/-- A head's rows at the end: the weighted sums divided by the sums of the weights. -/
def headRows (x0 : Vec F S1x2x256x128 .bf16) (x1 : Vec F S1x2x8192x128 .bf16) (x2 : Vec F S1x8192x128 .bf16) (h : Fin 2) (b : ℕ) :
    FVec F S256x128 .f32 :=
  let w := walk (queryRows x0 h) (keyBlock x1 h) (valBlock x2) b b
  k0_pay21 w.2.1 w.2.2

/-! ## Loads are blocks -/

theorem ld_query (x0 : Vec F S1x2x256x128 .bf16) (h : Fin 2) (inb) :
    View.ld x0 (Rect.unit ![0, h.val, 0, 0] ![1, 1, 256, 128] inb) = queryRows x0 h := by
  funext j
  idx_vars j
  pointwise [queryRows]

theorem ld_keys (x1 : Vec F S1x2x8192x128 .bf16) (h : Fin 2) (n : ℕ) (hn : n < 32) (off : Fin 4 → ℕ)
    (ho : off = ![0, h.val, 256 * n, 0]) (inb) :
    View.ld x1 (Rect.unit off ![1, 1, 256, 128] inb) = keyBlock x1 h n := by
  subst ho
  funext j
  idx_vars j
  pointwise [keyBlock]
  congr 3
  exact (Nat.mod_eq_of_lt (by omega)).symm

theorem ld_vals (x2 : Vec F S1x8192x128 .bf16) (n : ℕ) (hn : n < 32) (off : Fin 3 → ℕ)
    (ho : off = ![0, 256 * n, 0]) (inb) :
    View.ld x2 (Rect.unit off ![1, 256, 128] inb) = valBlock x2 n := by
  subst ho
  funext j
  idx_vars j
  pointwise [valBlock]
  congr 3
  exact (Nat.mod_eq_of_lt (by omega)).symm

/-! ## The trips -/

theorem trips_eq (n : Fin 32) : Scf.trips 0#32 (Scalar.addi 0#32 (Scalar.muli (Scalar.divsi (Scalar.subi (BitVec.ofNat 32 n.val) 0#32) 1#32) 1#32)) 1#32 = n.val := by
  revert n; decide +kernel

theorem rest_eq (n : Fin 32) : Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  revert n; decide +kernel

theorem own_eq (n : Fin 32) : (Scalar.indexCast (Scalar.muli (BitVec.ofNat 32 n.val) 256#32)).toNat = 256 * n.val := by
  revert n; decide +kernel

theorem place_eq (n : Fin 32) : (Scalar.indexCast (Scalar.muli (Scf.iv 0#32 1#32 n.val) 256#32)).toNat = 256 * n.val := by
  revert n; decide +kernel

section
variable (c : Dev nD) (i : grid0.Coords) (arg3 : Memref sig .tc .vmem S1x2x256x128 .bf16) (harg3 : arg3.IsWhole) (arg4 : Memref sig .tc .vmem S1x2x8192x128 .bf16) (harg4 : arg4.IsWhole) (arg5 : Memref sig .tc .vmem S1x8192x128 .bf16) (harg5 : arg5.IsWhole) (arg6 : Memref sig .tc .vmem S1x256x128 .f32) (harg6 : arg6.IsWhole)
  (x0 : Vec F S1x2x256x128 .bf16) (x1 : Vec F S1x2x8192x128 .bf16) (x2 : Vec F S1x8192x128 .bf16)

/-- The first head's loop is the walk. -/
theorem loop_fst (q : Vec F S1x1x256x128 .bf16) (b n : ℕ) (hn : n ≤ (i 2).val) :
    st_k0_t1 Variants.none c none i arg3 harg3 arg4 harg4 arg5 harg5 arg6 harg6 q (harg4.unread x1) (harg5.unread x2)
      (walk q (keyBlock x1 0) (valBlock x2) b 0) n = walk q (keyBlock x1 0) (valBlock x2) b n := by
  induction n with
  | zero => rfl
  | succ n ih =>
    have hi : (i 2).val < 32 := (i 2).isLt
    have ht : n < (k0_t1_loop i).trips := by rw [show (k0_t1_loop i).trips = (i 2).val from trips_eq (i 2)]; omega
    have := st_k0_t1_succ Variants.none c none i arg3 harg3 arg4 harg4 arg5 harg5 arg6 harg6 q (harg4.unread x1) (harg5.unread x2)
      (walk q (keyBlock x1 0) (valBlock x2) b 0) ⟨n, ht⟩
    rw [this, ih (by omega)]
    unfold tripR_k0_t1 trip_k0_t1
    dsimp only
    have hp := place_eq ⟨n, by omega⟩
    simp only [View.readAt_eq_ld, harg4.read_unread, harg5.read_unread]
    rw [ld_keys x1 0 n (by omega) _ (by simp only [k0_off3]; rw [hp]; rfl), ld_vals x2 n (by omega) _ (by simp only [k0_off4]; rw [hp])]
    rfl

/-- The second head's loop is the walk. -/
theorem loop_snd (q : Vec F S1x1x256x128 .bf16) (b n : ℕ) (a v : BitVec 32) (hn : n ≤ (i 2).val) :
    st_k0_t3 Variants.none c none i arg3 harg3 arg4 harg4 arg5 harg5 arg6 harg6 a k0_pay2 v q (harg4.unread x1) (harg5.unread x2)
      (walk q (keyBlock x1 1) (valBlock x2) b 0) n = walk q (keyBlock x1 1) (valBlock x2) b n := by
  induction n with
  | zero => rfl
  | succ n ih =>
    have hi : (i 2).val < 32 := (i 2).isLt
    have ht : n < (k0_t3_loop i).trips := by rw [show (k0_t3_loop i).trips = (i 2).val from trips_eq (i 2)]; omega
    have := st_k0_t3_succ Variants.none c none i arg3 harg3 arg4 harg4 arg5 harg5 arg6 harg6 a k0_pay2 v q (harg4.unread x1) (harg5.unread x2)
      (walk q (keyBlock x1 1) (valBlock x2) b 0) ⟨n, ht⟩
    rw [this, ih (by omega)]
    unfold tripR_k0_t3 trip_k0_t3
    dsimp only
    have hp := place_eq ⟨n, by omega⟩
    simp only [View.readAt_eq_ld, harg4.read_unread, harg5.read_unread]
    rw [ld_keys x1 1 n (by omega) _ (by simp only [k0_off8]; rw [hp]; rfl), ld_vals x2 n (by omega) _ (by simp only [k0_off9]; rw [hp])]
    rfl

/-- The block written: lane by lane the rows of the first or of the second head. -/
theorem out_rows : out0_A_3 c i arg3 harg3 arg4 harg4 arg5 harg5 arg6 harg6 x0 x1 x2
    = k0_pay1 (headRows x0 x1 x2 0 (i 2).val) (headRows x0 x1 x2 1 (i 2).val) (iota Kind.tc S256x128 32 [1] iota_S256x128_d1_w32) 64#32 k0_pay41 k0_pay42 1#32 0#32 := by
  have hi : (i 2).val < 32 := (i 2).isLt
  frame_out
  have ho := own_eq ⟨(i 2).val, hi⟩
  rw [ld_keys x1 0 (i 2).val hi (k0_off1 i) (by simp only [k0_off1]; rw [ho]; rfl), ld_keys x1 1 (i 2).val hi (k0_off7 i) (by simp only [k0_off7]; rw [ho]; rfl),
    ld_vals x2 (i 2).val hi (k0_off2 i) (by simp only [k0_off2]; rw [ho])]
  have hq0 : ∀ inb, View.ld x0 (Rect.unit ![0, 0, 0, 0] ![1, 1, 256, 128] inb) = queryRows x0 0 := ld_query x0 0
  have hq1 : ∀ inb, View.ld x0 (Rect.unit ![0, 1, 0, 0] ![1, 1, 256, 128] inb) = queryRows x0 1 := ld_query x0 1
  have h0 : st_k0_t1 Variants.none c none i arg3 harg3 arg4 harg4 arg5 harg5 arg6 harg6 (queryRows x0 0) (harg4.unread x1) (harg5.unread x2)
      (k0_pay5 (queryRows x0 0) (keyBlock x1 0 (i 2).val), k0_pay7 (queryRows x0 0) (keyBlock x1 0 (i 2).val),
        k0_pay8 (queryRows x0 0) (keyBlock x1 0 (i 2).val) (valBlock x2 (i 2).val)) (i 2).val
      = walk (queryRows x0 0) (keyBlock x1 0) (valBlock x2) (i 2).val (i 2).val :=
    loop_fst c i arg3 harg3 arg4 harg4 arg5 harg5 arg6 harg6 x1 x2 (queryRows x0 0) (i 2).val (i 2).val le_rfl
  have h1 : st_k0_t3 Variants.none c none i arg3 harg3 arg4 harg4 arg5 harg5 arg6 harg6 (BitVec.ofNat 32 (i 2).val) k0_pay2
      (Scalar.muli (BitVec.ofNat 32 (i 2).val) 256#32) (queryRows x0 1) (harg4.unread x1) (harg5.unread x2)
      (k0_pay24 k0_pay2 (queryRows x0 1) (keyBlock x1 1 (i 2).val), k0_pay26 k0_pay2 (queryRows x0 1) (keyBlock x1 1 (i 2).val),
        k0_pay27 k0_pay2 (queryRows x0 1) (keyBlock x1 1 (i 2).val) (valBlock x2 (i 2).val)) (i 2).val
      = walk (queryRows x0 1) (keyBlock x1 1) (valBlock x2) (i 2).val (i 2).val :=
    loop_snd c i arg3 harg3 arg4 harg4 arg5 harg5 arg6 harg6 x1 x2 (queryRows x0 1) (i 2).val (i 2).val
    (BitVec.ofNat 32 (i 2).val) (Scalar.muli (BitVec.ofNat 32 (i 2).val) 256#32) le_rfl
  rw [rest_eq ⟨(i 2).val, hi⟩, trips_eq ⟨(i 2).val, hi⟩]
  rw [hq0, hq1, h0, h1, st_k0_t2_zero, st_k0_t4_zero]
  rfl

end

end Cert.AttnIdeal.Value

end
-- ==== Proof.Softmax.lean ====
/-
  The arithmetic of a softmax taken block by block, over the extended reals.

  A row of scores `s` and a column of values `v` are met a block of positions at a time. What is carried is the
  greatest score so far, the sum of the exponentials of the scores less that maximum, and the sum of the values
  weighted by those exponentials. Meeting a further block rescales the two sums by the exponential of the old maximum
  less the new one. At the end the weighted sum divided by the sum of the weights is the softmax of the whole row
  applied to the values.
-/
module

public import Idealize.ShloMosaic.PureOps.Ideal
public import Mathlib.Data.EReal.Operations

@[expose] public section

noncomputable section

namespace Cert.Softmax

open Idealize.ShloMosaic
open scoped BigOperators

/-- The exponential is nonnegative. -/
theorem exp_nonneg (x : EReal) : 0 ≤ Ideal.exp x := by
  induction x with
  | bot => simp
  | top => simp
  | coe r => simpa using EReal.coe_nonneg.mpr (Real.exp_pos r).le

/-- The exponential is finite below infinity. -/
theorem exp_ne_top {x : EReal} (h : x ≠ ⊤) : Ideal.exp x ≠ ⊤ := by
  induction x with
  | bot => simp
  | top => exact absurd rfl h
  | coe r => simp

/-- The exponential is positive above minus infinity. -/
theorem exp_pos {x : EReal} (h : x ≠ ⊥) : 0 < Ideal.exp x := by
  induction x with
  | bot => exact absurd rfl h
  | top => simp
  | coe r => simpa using EReal.coe_pos.mpr (Real.exp_pos r)

/-- A score below infinity less a real number is below infinity. -/
theorem sub_coe_ne_top {x : EReal} (h : x ≠ ⊤) (r : ℝ) : x - (r : EReal) ≠ ⊤ := by
  induction x with
  | bot => simp
  | top => exact absurd rfl h
  | coe y => exact_mod_cast EReal.coe_ne_top (y - r)

/-- Changing the number subtracted under the exponential is a multiplication. -/
theorem exp_shift {x : EReal} (h : x ≠ ⊤) (a b : ℝ) :
    Ideal.exp ((a : EReal) - (b : EReal)) * Ideal.exp (x - (a : EReal)) = Ideal.exp (x - (b : EReal)) := by
  induction x with
  | bot => simp
  | top => exact absurd rfl h
  | coe y =>
    simp only [← EReal.coe_sub, Ideal.exp_coe, ← EReal.coe_mul, ← Real.exp_add]
    congr 2
    ring

/-- A maximum folded from minus infinity is the greatest value. -/
theorem fold_max {n : ℕ} (f : Fin n → EReal) : Finset.univ.fold max (⊥ : EReal) f = Finset.univ.sup f := rfl

/-- The word the maxima start from is minus infinity. -/
theorem negInf : Ideal.ofBits FTy.f32 0xFF800000#32 = ⊥ := by
  simp [Ideal.ofBits, Ideal.ieee]

/-- A finite nonnegative factor goes into a sum. -/
theorem mul_sum {ι : Type*} (J : Finset ι) (f : ι → EReal) {c : EReal} (h0 : 0 ≤ c) (h1 : c ≠ ⊤) :
    c * ∑ k ∈ J, f k = ∑ k ∈ J, c * f k := by
  classical
  induction J using Finset.induction_on with
  | empty => simp
  | insert a J ha ih => rw [Finset.sum_insert ha, Finset.sum_insert ha, EReal.left_distrib_of_nonneg_of_ne_top h0 h1, ih]

/-- What is carried after the positions of `J`: the greatest score, the sum of the weights and the weighted sum. -/
structure Carried {ι : Type*} (s v : ι → EReal) (J : Finset ι) (m l a : EReal) : Prop where
  max_eq : m = J.sup s
  sum_eq : l = ∑ k ∈ J, Ideal.exp (s k - m)
  acc_eq : a = ∑ k ∈ J, Ideal.exp (s k - m) * v k

section
variable {ι : Type*} {s v : ι → EReal}

/-- The greatest of finitely many scores is below infinity when each is. -/
theorem sup_ne_top (J : Finset ι) (h : ∀ k ∈ J, s k ≠ ⊤) : J.sup s ≠ ⊤ := by
  have : J.sup s < ⊤ := (Finset.sup_lt_iff (by simp)).mpr fun k hk => lt_top_iff_ne_top.mpr (h k hk)
  exact this.ne

/-- The greatest score is a real number when none is infinite and some one is not minus infinity. -/
theorem sup_real (J : Finset ι) (h : ∀ k ∈ J, s k ≠ ⊤) {k : ι} (hk : k ∈ J) (hs : s k ≠ ⊥) :
    ∃ r : ℝ, J.sup s = (r : EReal) := by
  have h1 := sup_ne_top J h
  have h2 : J.sup s ≠ ⊥ := fun e => hs (le_bot_iff.mp (e ▸ Finset.le_sup hk))
  exact ⟨(J.sup s).toReal, (EReal.coe_toReal h1 h2).symm⟩

/-- The first block: the maximum, the sum and the weighted sum themselves. -/
theorem carried_start (J : Finset ι) :
    Carried s v J (J.sup s) (∑ k ∈ J, Ideal.exp (s k - J.sup s)) (∑ k ∈ J, Ideal.exp (s k - J.sup s) * v k) :=
  ⟨rfl, rfl, rfl⟩

/-- A further block `K`, disjoint from what has been met. -/
theorem carried_step [DecidableEq ι] {J K : Finset ι} {m l a : EReal} (hJ : Carried s v J m l a) (hd : Disjoint J K)
    (ht : ∀ k ∈ J ∪ K, s k ≠ ⊤) {k₀ : ι} (hk₀ : k₀ ∈ J) (hs₀ : s k₀ ≠ ⊥) :
    Carried s v (J ∪ K) (max m (K.sup s))
      (Ideal.exp (m - max m (K.sup s)) * l + ∑ k ∈ K, Ideal.exp (s k - max m (K.sup s)))
      (Ideal.exp (m - max m (K.sup s)) * a + ∑ k ∈ K, Ideal.exp (s k - max m (K.sup s)) * v k) := by
  have hm : max m (K.sup s) = (J ∪ K).sup s := by rw [Finset.sup_union, hJ.max_eq]
  obtain ⟨r, hr⟩ := sup_real J (fun k hk => ht k (Finset.mem_union_left _ hk)) hk₀ hs₀
  obtain ⟨r', hr'⟩ := sup_real (J ∪ K) ht (Finset.mem_union_left _ hk₀) hs₀
  have hmr : m = (r : EReal) := hJ.max_eq.trans hr
  have hmr' : max m (K.sup s) = (r' : EReal) := hm.trans hr'
  refine ⟨hm, ?_, ?_⟩
  · rw [hmr', hJ.sum_eq, hmr, Finset.sum_union hd,
      mul_sum _ _ (exp_nonneg _) (exp_ne_top (sub_coe_ne_top (EReal.coe_ne_top r) r'))]
    exact congrArg (· + _) (Finset.sum_congr rfl fun k hk => exp_shift (ht k (Finset.mem_union_left _ hk)) r r')
  · rw [hmr', hJ.acc_eq, hmr, Finset.sum_union hd,
      mul_sum _ _ (exp_nonneg _) (exp_ne_top (sub_coe_ne_top (EReal.coe_ne_top r) r'))]
    refine congrArg (· + _) (Finset.sum_congr rfl fun k hk => ?_)
    rw [← mul_assoc, exp_shift (ht k (Finset.mem_union_left _ hk)) r r']

/-- The end: the weighted sum over the sum of the weights is the softmax of the whole row applied to the values, the
    positions outside `J` carrying the score minus infinity. -/
theorem carried_end [Fintype ι] {J : Finset ι} {m l a : EReal} (hJ : Carried s v J m l a)
    (ht : ∀ k ∈ J, s k ≠ ⊤) {k₀ : ι} (hk₀ : k₀ ∈ J) (hs₀ : s k₀ ≠ ⊥) (ho : ∀ k, k ∉ J → s k = ⊥) :
    Ideal.div a l = ∑ k, Ideal.div (Ideal.exp (s k - Finset.univ.sup s))
      (∑ k', Ideal.exp (s k' - Finset.univ.sup s)) * v k := by
  classical
  have hsup : Finset.univ.sup s = J.sup s := by
    refine le_antisymm (Finset.sup_le fun k _ => ?_) (Finset.sup_mono (Finset.subset_univ J))
    by_cases hk : k ∈ J
    · exact Finset.le_sup hk
    · rw [ho k hk]; exact bot_le
  obtain ⟨r, hr⟩ := sup_real J ht hk₀ hs₀
  have hmr : m = (r : EReal) := hJ.max_eq.trans hr
  have hz : ∀ k, k ∉ J → Ideal.exp (s k - (r : EReal)) = 0 := fun k hk => by rw [ho k hk]; simp
  have hl : ∑ k, Ideal.exp (s k - (r : EReal)) = l := by
    rw [hJ.sum_eq, hmr]
    exact (Finset.sum_subset (Finset.subset_univ J) fun k _ hk => hz k hk).symm
  have ha : ∑ k, Ideal.exp (s k - (r : EReal)) * v k = a := by
    rw [hJ.acc_eq, hmr]
    refine (Finset.sum_subset (Finset.subset_univ J) fun k _ hk => ?_).symm
    rw [hz k hk, zero_mul]
  have h0 : 0 < l := by
    rw [hJ.sum_eq, hmr]
    refine lt_of_lt_of_le (exp_pos (x := s k₀ - (r : EReal)) ?_)
      (Finset.single_le_sum (f := fun k => Ideal.exp (s k - (r : EReal))) (fun k _ => exp_nonneg _) hk₀)
    have h1 := ht k₀ hk₀
    generalize s k₀ = x at h1 hs₀
    induction x with
    | bot => exact absurd rfl hs₀
    | top => exact absurd rfl h1
    | coe y => exact_mod_cast EReal.coe_ne_bot (y - r)
  rw [hsup, hr, hl]
  have hdiv : ∀ x : EReal, Ideal.div x l = x * l⁻¹ := fun x => by unfold Ideal.div; rw [if_neg h0.ne']
  have hi0 : 0 ≤ l⁻¹ := EReal.inv_nonneg_of_nonneg h0.le
  have hi1 : l⁻¹ ≠ ⊤ := by
    generalize l = x at h0
    induction x with
    | bot => simp
    | top => simp
    | coe y => rw [← EReal.coe_inv]; exact EReal.coe_ne_top _
  simp only [hdiv]
  rw [← ha, mul_comm, mul_sum _ _ hi0 hi1]
  exact Finset.sum_congr rfl fun k _ => by rw [← mul_assoc, mul_comm (Ideal.exp _)]

end

end Cert.Softmax

end
-- ==== Proof.AttnRows.lean ====
/-
  The steps of the attention's walk, read at a row and a column over the extended reals.
-/
module

public import proofs.«01_k».proof.Proof.AttnTrips
public import proofs.«01_k».proof.Proof.Softmax

@[expose] public section

set_option maxRecDepth 16384

noncomputable section

namespace Cert.AttnIdeal.Value

open Cert.AttnIdeal Cert.AttnIdeal.Gen Idealize.ShloMosaic Idealize.ShloMosaic.TcCoe Idealize.SL.Sem

section
variable (q kb : Vec Ideal S1x1x256x128 .bf16) (vb : Vec Ideal S1x256x128 .bf16)
  (m l : FVec Ideal S256x1 .f32) (a : FVec Ideal S256x128 .f32) (r t : Fin 256) (d : Fin 128)

/-- The score of row `r` with key `t` of a block. -/
def score : EReal := ∑ e : Fin 128, q (ix4 0 0 r e) * kb (ix4 0 0 t e)

/-- The own block's score, minus infinity for a key after the row. -/
def ownScore : EReal := if t ≤ r then score q kb r t else ⊥

/-- The causal mask within a block. -/
theorem mask_at : k0_pay2 (ix2 r t) = BitVec.ofBool (decide (t ≤ r)) := by
  pointwise [k0_pay2]
  rw [WordCmp.cmpi_sle_ofNat (by omega) (by omega)]
  rfl

theorem pay9_at : k0_pay9 q kb (ix2 r t) = score q kb r t := by
  pointwise [k0_pay9, k0_pay3, score]

theorem pay4_at : k0_pay4 q kb (ix2 r t) = ownScore q kb r t := by
  pointwise [k0_pay4, k0_pay3, ownScore, score, mask_at]
  rfl

theorem pay5_at : k0_pay5 q kb (ix2 r 0) = Finset.univ.sup (ownScore q kb r) := by
  pointwise [k0_pay5, pay4_at]
  rw [Softmax.negInf, Softmax.fold_max]

theorem pay6_at : k0_pay6 q kb (ix2 r t) = Ideal.exp (ownScore q kb r t - Finset.univ.sup (ownScore q kb r)) := by
  pointwise [k0_pay6, pay4_at, pay5_at]

theorem pay7_at : k0_pay7 q kb (ix2 r 0) = ∑ t, Ideal.exp (ownScore q kb r t - Finset.univ.sup (ownScore q kb r)) := by
  pointwise [k0_pay7, pay6_at]

theorem pay8_at : k0_pay8 q kb vb (ix2 r d)
    = ∑ t, Ideal.exp (ownScore q kb r t - Finset.univ.sup (ownScore q kb r)) * vb (ix3 0 t d) := by
  pointwise [k0_pay8, pay6_at]

theorem pay10_at : k0_pay10 q m kb (ix2 r 0) = max (m (ix2 r 0)) (Finset.univ.sup (score q kb r)) := by
  pointwise [k0_pay10, pay9_at]
  rw [Softmax.negInf, Softmax.fold_max]

theorem pay11_at : k0_pay11 q m kb (ix2 r 0)
    = Ideal.exp (m (ix2 r 0) - max (m (ix2 r 0)) (Finset.univ.sup (score q kb r))) := by
  pointwise [k0_pay11, pay10_at]

theorem pay12_at : k0_pay12 q m kb (ix2 r t)
    = Ideal.exp (score q kb r t - max (m (ix2 r 0)) (Finset.univ.sup (score q kb r))) := by
  pointwise [k0_pay12, pay9_at, pay10_at]

theorem pay13_at : k0_pay13 q m l kb (ix2 r 0)
    = Ideal.exp (m (ix2 r 0) - max (m (ix2 r 0)) (Finset.univ.sup (score q kb r))) * l (ix2 r 0)
      + ∑ t, Ideal.exp (score q kb r t - max (m (ix2 r 0)) (Finset.univ.sup (score q kb r))) := by
  pointwise [k0_pay13, pay11_at, pay12_at]

theorem pay14_at : k0_pay14 q m a kb vb (ix2 r d)
    = Ideal.exp (m (ix2 r 0) - max (m (ix2 r 0)) (Finset.univ.sup (score q kb r))) * a (ix2 r d)
      + ∑ t, Ideal.exp (score q kb r t - max (m (ix2 r 0)) (Finset.univ.sup (score q kb r))) * vb (ix3 0 t d) := by
  pointwise [k0_pay14, pay11_at, pay12_at]

theorem pay21_at : k0_pay21 l a (ix2 r d) = Ideal.div (a (ix2 r d)) (l (ix2 r 0)) := by
  pointwise [k0_pay21]

/-- The lane's half, as the kernel computes it by a floor division. -/
theorem half_at : ∀ d : Fin 128, IntOp.cmpi CmpIPredicate.eq
        (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (1#32) (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32)
          (IntOp.divsi ArithUnit.vector (BitVec.ofNat 32 d.val) 64#32))
        1#32 = BitVec.ofBool (decide (64 ≤ d.val)) := by
  decide +kernel

/-- The lanes below 64 take the first head's rows, the others the second head's. -/
theorem pay1_at (u w : FVec Ideal S256x128 .f32) :
    k0_pay1 u w (iota Kind.tc S256x128 32 [1] iota_S256x128_d1_w32) 64#32 k0_pay41 k0_pay42 1#32 0#32 (ix3 0 r d)
      = if 64 ≤ d.val then w (ix2 r d) else u (ix2 r d) := by
  pointwise [k0_pay1, k0_pay41, k0_pay42]
  rw [half_at d, Scalar.select_decide]

end

/-! ## The walk carries the row's softmax -/

section
variable (x0 : Vec Ideal S1x2x256x128 .bf16) (x1 : Vec Ideal S1x2x8192x128 .bf16) (x2 : Vec Ideal S1x8192x128 .bf16)
  (h : Fin 2) (b : ℕ) (r : Fin 256) (d : Fin 128)

/-- The score of row `r` of query block `b` with key `k`: minus infinity for a key after the row. -/
def rowScore (k : Fin 8192) : EReal :=
  if k.val ≤ 256 * b + r.val then ∑ e : Fin 128, x0 (ix4 0 h r e) * x1 (ix4 0 h k e) else ⊥

/-- Column `d` of the values. -/
def column (k : Fin 8192) : EReal := x2 (ix3 0 k d)

/-- Position `t` of block `n`. -/
def place (n : ℕ) : Fin 256 ↪ Fin 8192 where
  toFun t := ⟨(256 * n + t.val) % 8192, Nat.mod_lt _ (by decide)⟩
  inj' t t' e := by
    have := congrArg Fin.val e
    dsimp only at this
    ext; omega

/-- The positions of block `n`. -/
def block (n : ℕ) : Finset (Fin 8192) := Finset.univ.map (place n)

theorem mem_block {n : ℕ} (hn : n < 32) (k : Fin 8192) : k ∈ block n ↔ k.val / 256 = n := by
  simp only [block, Finset.mem_map, Finset.mem_univ, true_and]
  constructor
  · rintro ⟨t, rfl⟩
    show (256 * n + t.val) % 8192 / 256 = n
    omega
  · intro e
    refine ⟨⟨k.val % 256, Nat.mod_lt _ (by decide)⟩, Fin.ext ?_⟩
    show (256 * n + k.val % 256) % 8192 = k.val
    omega

/-- The positions met after `n` trips: the own block's and those of the blocks below `n`. -/
def met (b : ℕ) : ℕ → Finset (Fin 8192)
  | 0 => block b
  | n + 1 => met b n ∪ block n

theorem mem_met {b : ℕ} (hb : b < 32) {n : ℕ} (hn : n ≤ b) (k : Fin 8192) :
    k ∈ met b n ↔ k.val / 256 = b ∨ k.val / 256 < n := by
  induction n with
  | zero => simp [met, mem_block hb]
  | succ n ih =>
    rw [met, Finset.mem_union, ih (by omega), mem_block (by omega)]
    omega

variable {x0 x1 h b r d}

theorem own_score (hb : b < 32) (t : Fin 256) :
    ownScore (queryRows x0 h) (keyBlock x1 h b) r t = rowScore x0 x1 h b r (place b t) := by
  unfold ownScore rowScore
  refine if_congr ?_ rfl rfl
  show t.val ≤ r.val ↔ (256 * b + t.val) % 8192 ≤ 256 * b + r.val
  omega

theorem earlier_score (hb : b < 32) {n : ℕ} (hn : n < b) (t : Fin 256) :
    score (queryRows x0 h) (keyBlock x1 h n) r t = rowScore x0 x1 h b r (place n t) := by
  unfold rowScore
  rw [if_pos]
  · rfl
  · show (256 * n + t.val) % 8192 ≤ 256 * b + r.val
    omega

/-- A finite sum of products of real numbers is a real number. -/
theorem dot_real {n : ℕ} (f g : Fin n → EReal) (hf : ∀ e, ∃ y : ℝ, f e = y) (hg : ∀ e, ∃ y : ℝ, g e = y) :
    ∃ y : ℝ, ∑ e, f e * g e = y := by
  choose u hu using hf
  choose w hw using hg
  refine ⟨∑ e, u e * w e, ?_⟩
  simp only [hu, hw, ← EReal.coe_mul]
  exact (map_sum (⟨⟨Real.toEReal, EReal.coe_zero⟩, EReal.coe_add⟩ : ℝ →+ EReal) _ _).symm

theorem rowScore_ne_top (h0 : ∀ j, ∃ y : ℝ, x0 j = (y : EReal)) (h1 : ∀ j, ∃ y : ℝ, x1 j = (y : EReal)) (k : Fin 8192) :
    rowScore x0 x1 h b r k ≠ ⊤ := by
  unfold rowScore
  split
  · obtain ⟨y, hy⟩ := dot_real (fun e : Fin 128 => x0 (ix4 0 h r e)) (fun e => x1 (ix4 0 h k e)) (fun _ => h0 _) (fun _ => h1 _)
    rw [hy]; exact EReal.coe_ne_top y
  · exact bot_ne_top

theorem rowScore_own (h0 : ∀ j, ∃ y : ℝ, x0 j = (y : EReal)) (h1 : ∀ j, ∃ y : ℝ, x1 j = (y : EReal)) (hb : b < 32) :
    rowScore x0 x1 h b r (place b r) ≠ ⊥ := by
  unfold rowScore
  rw [if_pos]
  · obtain ⟨y, hy⟩ := dot_real (fun e : Fin 128 => x0 (ix4 0 h r e)) (fun e => x1 (ix4 0 h (place b r) e)) (fun _ => h0 _) (fun _ => h1 _)
    rw [hy]; exact EReal.coe_ne_bot y
  · show (256 * b + r.val) % 8192 ≤ 256 * b + r.val
    omega

/-- After `n` trips a head carries, at each row and column, the greatest score, the sum of the weights and the weighted
    sum over the positions met. -/
theorem walk_carried (h0 : ∀ j, ∃ y : ℝ, x0 j = (y : EReal)) (h1 : ∀ j, ∃ y : ℝ, x1 j = (y : EReal)) (hb : b < 32)
    {n : ℕ} (hn : n ≤ b) :
    Softmax.Carried (rowScore x0 x1 h b r) (column x2 d) (met b n)
      ((walk (queryRows x0 h) (keyBlock x1 h) (valBlock x2) b n).1 (ix2 r 0))
      ((walk (queryRows x0 h) (keyBlock x1 h) (valBlock x2) b n).2.1 (ix2 r 0))
      ((walk (queryRows x0 h) (keyBlock x1 h) (valBlock x2) b n).2.2 (ix2 r d)) := by
  induction n with
  | zero =>
    have hs : ownScore (queryRows x0 h) (keyBlock x1 h b) r = fun t => rowScore x0 x1 h b r (place b t) :=
      funext (own_score hb)
    have := Softmax.carried_start (s := rowScore x0 x1 h b r) (v := column x2 d) (block b)
    simp only [block, Finset.sup_map, Finset.sum_map] at this
    simp only [walk, start, pay5_at, pay7_at, pay8_at, hs]
    exact this
  | succ n ih =>
    have hs : score (queryRows x0 h) (keyBlock x1 h n) r = fun t => rowScore x0 x1 h b r (place n t) :=
      funext (earlier_score hb (by omega))
    have := Softmax.carried_step (ih (by omega)) (K := block n)
      (Finset.disjoint_left.mpr fun k hk hk' => by
        rw [mem_met hb (by omega)] at hk; rw [mem_block (by omega)] at hk'; omega)
      (fun k _ => rowScore_ne_top h0 h1 k) (k₀ := place b r)
      ((mem_met hb (by omega) _).mpr (Or.inl (by show (256 * b + r.val) % 8192 / 256 = b; omega))) (rowScore_own h0 h1 hb)
    simp only [block, Finset.sup_map, Finset.sum_map] at this
    simp only [walk, step, pay10_at, pay13_at, pay14_at, hs]
    exact this

/-- A head's rows at the end are the softmax of the row's scores applied to the values. -/
theorem headRows_at (h0 : ∀ j, ∃ y : ℝ, x0 j = (y : EReal)) (h1 : ∀ j, ∃ y : ℝ, x1 j = (y : EReal)) (hb : b < 32) :
    headRows x0 x1 x2 h b (ix2 r d)
      = ∑ k, Ideal.div (Ideal.exp (rowScore x0 x1 h b r k - Finset.univ.sup (rowScore x0 x1 h b r)))
          (∑ k', Ideal.exp (rowScore x0 x1 h b r k' - Finset.univ.sup (rowScore x0 x1 h b r))) * column x2 d k := by
  have hc := walk_carried (x2 := x2) (d := d) (h := h) (r := r) h0 h1 hb le_rfl
  refine (pay21_at _ _ r d).trans (Softmax.carried_end hc (fun k _ => rowScore_ne_top h0 h1 k) (k₀ := place b r)
    ((mem_met hb le_rfl _).mpr (Or.inl (by show (256 * b + r.val) % 8192 / 256 = b; omega))) (rowScore_own h0 h1 hb) fun k hk => ?_)
  rw [mem_met hb le_rfl] at hk
  unfold rowScore
  exact if_neg (by omega)

end

end Cert.AttnIdeal.Value

end
-- ==== Proof.AttnArray.lean ====
/-
  The array the attention leaves: at every batch, row and column the softmax of the row's scores applied to the values.
-/
module

public import proofs.«01_k».proof.Proof.AttnRows
public import Idealize.ShloMosaic.Lib.Pipeline.Covers

@[expose] public section

set_option maxRecDepth 16384

noncomputable section

namespace Cert.AttnIdeal.Value

open Cert.AttnIdeal Cert.AttnIdeal.Gen Idealize.ShloMosaic Idealize.ShloMosaic.TcCoe Idealize.SL.Sem

/-- The causal score of row `r` with key `k`: minus infinity for a key after the row. -/
def causal (q k : FVec Ideal S2x8x8192x128 .bf16) (b : Fin 2) (h : Fin 8) (r t : Fin 8192) : EReal :=
  if t.val ≤ r.val then ∑ e : Fin 128, q (ix4 b h r e) * k (ix4 b h t e) else ⊥

/-- The head a column of the output belongs to. -/
def headOf (d : Fin 512) : Fin 8 := ⟨d.val / 64, by omega⟩

/-- Causal attention at a batch, a row and a column. -/
def attnAt (q k : FVec Ideal S2x8x8192x128 .bf16) (v : FVec Ideal S2x8192x512 .bf16) (b : Fin 2) (r : Fin 8192) (d : Fin 512) : EReal :=
  ∑ t, Ideal.div (Ideal.exp (causal q k b (headOf d) r t - Finset.univ.sup (causal q k b (headOf d) r)))
      (∑ t', Ideal.exp (causal q k b (headOf d) r t' - Finset.univ.sup (causal q k b (headOf d) r))) * v (ix3 b t d)

/-- Causal attention, every head's columns side by side. -/
def attn (q k : FVec Ideal S2x8x8192x128 .bf16) (v : FVec Ideal S2x8192x512 .bf16) : FVec Ideal S2x8192x512 .f32 :=
  fun j => attnAt q k v (j 0) (j 1) (j 2)

/-! ## The blocks' places -/

theorem map0 (i : grid0.Coords) : cc0_transform_0 i = ![(i 0).val, (i 1).val, (i 2).val, 0] := by
  have h0 : (i 0).val < 2 := (i 0).isLt
  have h1 : (i 1).val < 4 := (i 1).isLt
  have h2 : (i 2).val < 32 := (i 2).isLt
  simp only [cc0_transform_0, BitVec.toNat_ofNat]
  congr! <;> omega

theorem map1 (i : grid0.Coords) : cc0_transform_1 i = ![(i 0).val, (i 1).val, 0, 0] := by
  have h0 : (i 0).val < 2 := (i 0).isLt
  have h1 : (i 1).val < 4 := (i 1).isLt
  simp only [cc0_transform_1, BitVec.toNat_ofNat]
  congr! <;> omega

theorem map2 (i : grid0.Coords) : cc0_transform_2 i = ![(i 0).val, 0, (i 1).val] := by
  have h0 : (i 0).val < 2 := (i 0).isLt
  have h1 : (i 1).val < 4 := (i 1).isLt
  simp only [cc0_transform_2, BitVec.toNat_ofNat]
  congr! <;> omega

theorem map3 (i : grid0.Coords) : cc0_transform_3 i = ![(i 0).val, (i 2).val, (i 1).val] := by
  have h0 : (i 0).val < 2 := (i 0).isLt
  have h1 : (i 1).val < 4 := (i 1).isLt
  have h2 : (i 2).val < 32 := (i 2).isLt
  simp only [cc0_transform_3, BitVec.toNat_ofNat]
  congr! <;> omega

theorem index0 (t : Fin cfg0.N) : (cfg0.win 0).index t = ![(grid0.coords t 0).val, (grid0.coords t 1).val, (grid0.coords t 2).val, 0] := map0 _
theorem index1 (t : Fin cfg0.N) : (cfg0.win 1).index t = ![(grid0.coords t 0).val, (grid0.coords t 1).val, 0, 0] := map1 _
theorem index2 (t : Fin cfg0.N) : (cfg0.win 2).index t = ![(grid0.coords t 0).val, 0, (grid0.coords t 1).val] := map2 _
theorem index3 (t : Fin cfg0.N) : (cfg0.win 3).index t = ![(grid0.coords t 0).val, (grid0.coords t 2).val, (grid0.coords t 1).val] := map3 _

variable (m : (ℓ : Loc nD τ sig) → Buf (Elt Ideal) ℓ) (c : Dev nD) (t : Fin cfg0.N)

/-- The batch of a grid point. -/
def batchOf : Fin 2 := ⟨(grid0.coords t 0).val, (grid0.coords t 0).isLt⟩
/-- The pair of heads of a grid point. -/
def pairOf : Fin 4 := ⟨(grid0.coords t 1).val, (grid0.coords t 1).isLt⟩
/-- The block of rows of a grid point. -/
def rowsOf : Fin 32 := ⟨(grid0.coords t 2).val, (grid0.coords t 2).isLt⟩
/-- The row of the array a block's row is. -/
def rowOf (r : Fin 256) : Fin 8192 := ⟨256 * (rowsOf t).val + r.val, by omega⟩
/-- The head of the array a block's head is. -/
def pairHead (h : Fin 2) : Fin 8 := ⟨2 * (pairOf t).val + h.val, by omega⟩
/-- The column of the array a block's column is. -/
def colOf (d : Fin 128) : Fin 512 := ⟨128 * (pairOf t).val + d.val, by omega⟩

theorem query_read (h : Fin 2) (r : Fin 256) (e : Fin 128) : iblk m c 0 t (ix4 0 h r e)
    = (m ((c.tc : Thread nD τ).loc main_arg0) : FVec Ideal S2x8x8192x128 .bf16) (ix4 (batchOf t) (pairHead t h) (rowOf t r) e) := by
  blk_ext [iblk, V, index0 t, batchOf, pairHead, rowOf, pairOf, rowsOf]

theorem key_read (h : Fin 2) (r : Fin 8192) (e : Fin 128) : iblk m c 1 t (ix4 0 h r e)
    = (m ((c.tc : Thread nD τ).loc main_arg1) : FVec Ideal S2x8x8192x128 .bf16) (ix4 (batchOf t) (pairHead t h) r e) := by
  blk_ext [iblk, V, index1 t, batchOf, pairHead, rowOf, pairOf, rowsOf]

theorem value_read (r : Fin 8192) (d : Fin 128) : iblk m c 2 t (ix3 0 r d)
    = (m ((c.tc : Thread nD τ).loc main_arg2) : FVec Ideal S2x8192x512 .bf16) (ix3 (batchOf t) r (colOf t d)) := by
  blk_ext [iblk, V, index2 t, batchOf, colOf, pairOf]

theorem out_place (r : Fin 256) (d : Fin 128) : ((cfg0.win 3).blk t).view.emb (ix3 0 r d) = ix3 (batchOf t) (rowOf t r) (colOf t d) := by
  blk_ext [index3 t, batchOf, colOf, rowOf, pairOf, rowsOf]

/-- Some grid point writes any given block. -/
theorem point (b : Fin 2) (p : Fin 32) (l : Fin 4) : ∃ i : grid0.Coords, cc0_transform_3 i = ![b.val, p.val, l.val] :=
  ⟨fun a => match a with | 0 => b | 1 => l | 2 => p, map3 _⟩

theorem headOf_colOf (h : Fin 2) (d : Fin 128) (hd : d.val / 64 = h.val) : headOf (colOf t d) = pairHead t h := by
  apply Fin.ext
  show (128 * (pairOf t).val + d.val) / 64 = 2 * (pairOf t).val + h.val
  omega

section
variable {m c}
variable (hq : ∀ j, ∃ y : ℝ, (m ((c.tc : Thread nD τ).loc main_arg0) : FVec Ideal S2x8x8192x128 .bf16) j = (y : EReal))
  (hk : ∀ j, ∃ y : ℝ, (m ((c.tc : Thread nD τ).loc main_arg1) : FVec Ideal S2x8x8192x128 .bf16) j = (y : EReal))

include hq hk

/-- A head's rows at a grid point are the attention at the point's batch, rows and columns. -/
theorem head_value (h : Fin 2) (r : Fin 256) (d : Fin 128) (hd : d.val / 64 = h.val) :
    headRows (iblk m c 0 t) (iblk m c 1 t) (iblk m c 2 t) h (grid0.coords t 2).val (ix2 r d)
      = attnAt (m ((c.tc : Thread nD τ).loc main_arg0)) (m ((c.tc : Thread nD τ).loc main_arg1)) (m ((c.tc : Thread nD τ).loc main_arg2))
          (batchOf t) (rowOf t r) (colOf t d) := by
  have hs : rowScore (iblk m c 0 t) (iblk m c 1 t) h (grid0.coords t 2).val r
      = causal (m ((c.tc : Thread nD τ).loc main_arg0)) (m ((c.tc : Thread nD τ).loc main_arg1)) (batchOf t) (headOf (colOf t d)) (rowOf t r) := by
    funext k
    unfold rowScore causal
    rw [headOf_colOf t h d hd]
    exact if_congr Iff.rfl (Finset.sum_congr rfl fun e _ => by rw [query_read, key_read]) rfl
  rw [headRows_at]
  · rw [hs]
    exact Finset.sum_congr rfl fun k _ => congrArg _ (value_read m c t k d)
  · intro j
    idx_vars j
    rw [Subsingleton.elim j0 0, query_read]
    exact hq _
  · intro j
    idx_vars j
    rw [Subsingleton.elim j0 0, key_read]
    exact hk _
  · exact (grid0.coords t 2).isLt

/-- The array the attention leaves, for real queries and keys. -/
theorem array :
    (dats m 0 c).arrAt 3 cfg0.N = attn (m ((c.tc : Thread nD τ).loc main_arg0)) (m ((c.tc : Thread nD τ).loc main_arg1)) (m ((c.tc : Thread nD τ).loc main_arg2)) := by
  refine (dats m 0 c).arrAt_eq_of_covers 3 _ ((cfg0.win 3).covers_of_indexMap_surj rfl (by decide) fun β =>
    (point (β 0) (β 1) (β 2)).imp fun i hi a => (congrFun hi a).trans (by fin_cases a <;> rfl)) fun t hf y => ?_
  blk_simp
  rw [after0_3]
  unfold outsAt0
  rw [out_rows]
  idx_vars y
  rw [Subsingleton.elim y0 0, pay1_at]
  refine Eq.trans ?_ (congrArg _ (out_place t y1 y2)).symm
  split
  · exact head_value t hq hk 1 y1 y2 (by show y2.val / 64 = 1; omega)
  · exact head_value t hq hk 0 y1 y2 (by show y2.val / 64 = 0; omega)

end

end Cert.AttnIdeal.Value

end
-- ==== Proof.AttnReference.lean ====
/-
  The attention's reference at an index.
-/
module

public import proofs.«01_k».proof.Proof.Gen.AttnRefIdeal.Run
public import proofs.«01_k».proof.Proof.Softmax
public import Idealize.ShloMosaic.Lib.Pointwise
public import Idealize.ShloMosaic.Lib.WordCmp
public import Idealize.ShloMosaic.Lib.Tactic.CleanTypes

@[expose] public section

set_option maxRecDepth 16384

noncomputable section

namespace Cert.AttnRefIdeal.Value

open Cert.AttnRefIdeal Cert.AttnRefIdeal.Gen Idealize.ShloMosaic Idealize.ShloMosaic.TcCoe Idealize.SL.Sem

/-- The masked scores. -/
def scores (q k : FVec Ideal S2x8x8192x128 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral (φ₁ := .f32) (φ₂ := .f32) dot_S2x8x8192x128_S2x8x8192x128_S2x8x8192x8192_3_3_2_2_01_01 none (extf .f32 q bitsLt_bf16_f32) (extf .f32 k bitsLt_bf16_f32))
    (broadcastInDim S2x8x8192x8192 ![] bcast_S_S2x8x8192x8192 (id (constant S_ .f32 0xFF800000#32)))

/-- Each row's maximum. -/
def rowMax (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- The exponentials of the scores less their row's maximum. -/
def shifted (s : FVec Ideal S2x8x8192x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (rowMax s))))

/-- Each row divided by its sum. -/
def normed (p : FVec Ideal S2x8x8192x8192 .f32) : FVec Ideal S2x8x8192x8192 .f32 :=
  Host.divf p (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd p (constant S_ .f32 0x00000000#32) reducesTo_S2x8x8192x8192_S2x8x8192_d3 h_S_)))

/-- The weights applied to the values, the heads' columns side by side. -/
def applied (w : FVec Ideal S2x8x8192x8192 .f32) (v : FVec Ideal S2x8192x512 .bf16) : FVec Ideal S2x8192x512 .f32 :=
  shapeCast _ (transpose S2x8192x8x64 [0, 2, 1, 3] (Host.dotGeneral (φ₁ := .f32) (φ₂ := .f32) dot_S2x8x8192x8192_S2x8x8192x64_S2x8x8192x64_3_2_2_3_01_01 none (extf .f32 (truncf .bf16 w bitsLt_bf16_f32) bitsLt_bf16_f32) (transpose S2x8x8192x64 [0, 2, 1, 3] (shapeCast _ (extf .f32 v bitsLt_bf16_f32) shapeCasts_S2x8192x512_S2x8192x8x64) transposes_S2x8192x8x64_S2x8x8192x64_0_2_1_3)) transposes_S2x8x8192x64_S2x8192x8x64_0_2_1_3) shapeCasts_S2x8192x8x64_S2x8192x512

variable (m : (ℓ : Loc nD τ sig) → Buf (Elt Ideal) ℓ) (c : Dev nD)

theorem res_eq : res_main_v28 m c = applied (normed (shifted (scores (m ((c.tc : Thread nD τ).loc main_arg0)) (m ((c.tc : Thread nD τ).loc main_arg1))))) (m ((c.tc : Thread nD τ).loc main_arg2)) := rfl

/-- A maximum over the last of four axes, at an index. -/
theorem maxLast {n0 n1 n2 n3 : ℕ} (h : (⟨4, ![n0, n1, n2, n3]⟩ : Shape).ReducesTo [3] ⟨3, ![n0, n1, n2]⟩)
    (x : FVec Ideal ⟨4, ![n0, n1, n2, n3]⟩ .f32) (u : FVec Ideal S_ .f32) (b : Fin n0) (g : Fin n1) (r : Fin n2) :
    Host.reduce FloatOps.maximumf x u h h_S_ (ix3 b g r) = Finset.univ.fold max (u (Shape.Idx.first h_S_)) fun k => x (ix4 b g r k) := by
  simp only [pointwise]

section
variable (q k : FVec Ideal S2x8x8192x128 .bf16) (v : FVec Ideal S2x8192x512 .bf16) (s p : FVec Ideal S2x8x8192x8192 .f32)
  (b : Fin 2) (h : Fin 8) (r t : Fin 8192) (d : Fin 512)

theorem scores_at : scores q k (ix4 b h r t) = if t.val ≤ r.val then ∑ e : Fin 128, q (ix4 b h r e) * k (ix4 b h t e) else ⊥ := by
  unfold scores
  pointwise
  rw [Idealize.ShloMosaic.WordCmp.cmpi_sle_ofNat (by omega) (by omega), Scalar.select_decide]
  exact if_congr Iff.rfl rfl Softmax.negInf

theorem rowFold_at (u : FVec Ideal S_ .f32) (hc : u (Shape.Idx.first h_S_) = (⊥ : EReal)) :
    Host.reduce (FloatOps.maximumf (F := Ideal) (φ := .f32)) s u reducesTo_S2x8x8192x8192_S2x8x8192_d3 h_S_ (ix3 b h r)
      = (Finset.univ.sup fun t' => (s (ix4 b h r t') : EReal) : EReal) := by
  have e := maxLast reducesTo_S2x8x8192x8192_S2x8x8192_d3 s u b h r
  rw [hc] at e
  exact e.trans (Softmax.fold_max _)

theorem floor_at (y : FVec Ideal S2x8x8192 .f32) :
    maximumf (broadcastInDim S2x8x8192 ![] bcast_S_S2x8x8192 (constant S_ .f32 0xFF800000#32)) y (ix3 b h r) = y (ix3 b h r) := by
  pointwise
  rw [Softmax.negInf]
  exact bot_sup_eq _

theorem rowMax_at : rowMax s (ix3 b h r) = (Finset.univ.sup fun t' => (s (ix4 b h r t') : EReal) : EReal) := by
  unfold rowMax
  exact (floor_at b h r _).trans (rowFold_at s b h r _ Softmax.negInf)

theorem shifted_at : shifted s (ix4 b h r t) = Ideal.exp (s (ix4 b h r t) - Finset.univ.sup fun t' => (s (ix4 b h r t') : EReal)) := by
  unfold shifted
  rw [← rowMax_at]
  generalize rowMax s = y
  pointwise

theorem normed_at : normed p (ix4 b h r t) = Ideal.div (p (ix4 b h r t)) (∑ t', p (ix4 b h r t')) := by
  unfold normed
  pointwise

theorem applied_at : applied p v (ix3 b r d) = ∑ t, p (ix4 b ⟨d.val / 64, by omega⟩ r t) * v (ix3 b t d) := by
  unfold applied
  pointwise

end

end Cert.AttnRefIdeal.Value

end
-- ==== Proof.AttnEqual.lean ====
/-
  The attention and its reference agree for finite queries and keys.
-/
module

public import proofs.«01_k».proof.Proof.AttnArray
public import proofs.«01_k».proof.Proof.AttnReference
public import proofs.«01_k».proof.Defs

@[expose] public section

set_option maxRecDepth 16384

noncomputable section

namespace Cert.AttnEqual

open Idealize.ShloMosaic Idealize.ShloMosaic.TcCoe Idealize.SL.Sem

/-- The reference's composed term is causal attention. -/
theorem reference_eq (m : (ℓ : Loc AttnRefIdeal.nD AttnRefIdeal.τ AttnRefIdeal.sig) → Buf (Elt Ideal) ℓ) (c : Dev AttnRefIdeal.nD) :
    AttnRefIdeal.Value.res_main_v28 m c = AttnIdeal.Value.attn (m ((c.tc : Thread AttnRefIdeal.nD AttnRefIdeal.τ).loc AttnRefIdeal.main_arg0))
      (m ((c.tc : Thread AttnRefIdeal.nD AttnRefIdeal.τ).loc AttnRefIdeal.main_arg1)) (m ((c.tc : Thread AttnRefIdeal.nD AttnRefIdeal.τ).loc AttnRefIdeal.main_arg2)) := by
  rw [AttnRefIdeal.Value.res_eq]
  funext j
  idx_vars j
  rw [AttnRefIdeal.Value.applied_at]
  simp only [AttnRefIdeal.Value.normed_at, AttnRefIdeal.Value.shifted_at, AttnRefIdeal.Value.scores_at]
  unfold AttnIdeal.Value.attn AttnIdeal.Value.attnAt AttnIdeal.Value.causal
  rfl

/-- A value whose absolute value is below infinity is a real number. -/
theorem real_of_abs_lt (x : EReal) (h : max x (-x) < ⊤) : ∃ y : ℝ, x = y := by
  induction x with
  | bot => simp at h
  | top => simp at h
  | coe y => exact ⟨y, rfl⟩

instance facts : Pre_finite.Facts where
  bitsLt_bf16_f32 := by decide
  bcast_S_S2x8x8192x128 := by decide

/-- A comparison of the absolute value with infinity that holds says the value is real. -/
theorem real_of_bit (x : EReal)
    (e : BitVec.ofBool (decide (FloatOps.absf (F := Ideal) (φ := .f32) x < Ideal.ofBits FTy.f32 0x7F800000#32)) = 1#1) : ∃ y : ℝ, x = y := by
  have ht : Ideal.ofBits FTy.f32 0x7F800000#32 = ⊤ := by simp [Ideal.ofBits, Ideal.ieee]
  rw [ht] at e
  refine real_of_abs_lt x ?_
  by_contra hn
  rw [show decide (FloatOps.absf (F := Ideal) (φ := .f32) x < (⊤ : EReal)) = false from decide_eq_false hn] at e
  exact absurd e (by decide)

/-- What the precondition says of the queries and of the keys. -/
theorem real_of_pre (q k : FVec Ideal Pre_finite.S2x8x8192x128 .bf16) (v : FVec Ideal Pre_finite.S2x8192x512 .bf16)
    (h : (Pre_finite.fn (F := Ideal) q k v).1 = (fun _ => 1#1) ∧ (Pre_finite.fn (F := Ideal) q k v).2 = (fun _ => 1#1)) :
    (∀ j, ∃ y : ℝ, q j = (y : EReal)) ∧ ∀ j, ∃ y : ℝ, k j = (y : EReal) := by
  constructor
  · intro j
    have e := congrFun h.1 j
    idx_vars j
    pointwise [Pre_finite.fn] at e
    exact real_of_bit _ e
  · intro j
    have e := congrFun h.2 j
    idx_vars j
    pointwise [Pre_finite.fn] at e
    exact real_of_bit _ e

/-- The attention computes what its reference computes. -/
theorem algebraic : Cert.algebraic_AttnIdeal_AttnRefIdeal_pre_finite := by
  intro m g m' g' hp ha
  have hr := fun c => real_of_pre _ _ _ (hp c)
  refine ⟨fun c => (AttnIdeal.Gen.dats m 0 c).arrAt 3 AttnIdeal.cfg0.N, AttnIdeal.Value.run_blocks m g, ?_⟩
  refine (θ_run AttnRefIdeal.defs _ _).mono (fun r h c => ⟨(h c).1.trans ?_, (h c).2⟩) (AttnRefIdeal.Value.run (F := Ideal) m' g')
  obtain ⟨h0, h1, h2⟩ := ha c
  refine Eq.trans ?_ (AttnIdeal.Value.array (hr c).1 (hr c).2).symm
  rw [reference_eq, h0, h1, h2]

/-- The reference runs, leaves its arguments and ends with every counter at zero. -/
theorem frame_reference (m : (ℓ : Loc AttnRefIdeal.nD AttnRefIdeal.τ AttnRefIdeal.sig) → Buf (Elt Ideal) ℓ) (ρ : Dev AttnRefIdeal.nD → PrngReg) :
    θ_run (AttnRefIdeal.defs (F := Ideal)) (onTc (τ := AttnRefIdeal.τ) (AttnRefIdeal.main (F := Ideal))) ⟨m, fun _ => 0, ρ⟩ (fun r => (∀ c : Dev AttnRefIdeal.nD,
      r.2.mem ((c.tc : Thread AttnRefIdeal.nD AttnRefIdeal.τ).loc AttnRefIdeal.main_arg0) = m ((c.tc : Thread AttnRefIdeal.nD AttnRefIdeal.τ).loc AttnRefIdeal.main_arg0)
      ∧ r.2.mem ((c.tc : Thread AttnRefIdeal.nD AttnRefIdeal.τ).loc AttnRefIdeal.main_arg1) = m ((c.tc : Thread AttnRefIdeal.nD AttnRefIdeal.τ).loc AttnRefIdeal.main_arg1)
      ∧ r.2.mem ((c.tc : Thread AttnRefIdeal.nD AttnRefIdeal.τ).loc AttnRefIdeal.main_arg2) = m ((c.tc : Thread AttnRefIdeal.nD AttnRefIdeal.τ).loc AttnRefIdeal.main_arg2))
      ∧ r.2.sem = fun _ => 0) :=
  (θ_run AttnRefIdeal.defs _ _).mono (fun r h => ⟨fun c => (h c).2, sem_eq_zero_of_no_sems (by decide) r.2⟩)
    (AttnRefIdeal.Value.run (F := Ideal) m ρ)

end Cert.AttnEqual

end
-- ==== Proof.MlpRow.lean ====
/-
  A row of the layer's second half: from the two mixers' rows to the layer's result.
-/
module

public import Idealize.ShloMosaic.Lib.Pointwise

@[expose] public section

noncomputable section

namespace Cert.MlpRow

open Idealize.ShloMosaic

/-- The RMS normalisation of a row, scaled; `len` is the word of the row's length. -/
def normRow {n : ℕ} (len : BitVec 32) (f g : Fin n → EReal) (k : Fin n) : EReal :=
  f k * Ideal.rsqrt (Ideal.div (∑ j, f j * f j) (Ideal.ofBits .f32 len) + Ideal.ofBits .f32 0x358637BD#32) * g k

/-- The row after the mixers: the normalised rows through the output projection, gated and added to the row. -/
def mixRow (x gate : Fin 1024 → EReal) (a s : Fin 512 → EReal) (w : Fin 1024 → Fin 1024 → EReal) (d : Fin 1024) : EReal :=
  x d + gate d * (∑ k : Fin 512, a k * w ⟨k.val, by omega⟩ d + ∑ k : Fin 512, s k * w ⟨512 + k.val, by omega⟩ d)

/-- The MLP's input: the normalised row scaled and shifted. -/
def modRow (x g scale shift : Fin 1024 → EReal) (d : Fin 1024) : EReal :=
  normRow 0x44800000#32 x g d * (Ideal.ofBits .f32 0x3F800000#32 + scale d) + shift d

/-- A hidden unit: the square of what is positive of the product. -/
def hiddenUnit (h : Fin 1024 → EReal) (w : Fin 1024 → Fin 4096 → EReal) (k : Fin 4096) : EReal :=
  max (∑ e, h e * w e k) (Ideal.ofBits .f32 0x00000000#32) * max (∑ e, h e * w e k) (Ideal.ofBits .f32 0x00000000#32)

/-- The row after the MLP. -/
def mlpRow (x gate : Fin 1024 → EReal) (u : Fin 4096 → EReal) (w : Fin 4096 → Fin 1024 → EReal) (d : Fin 1024) : EReal :=
  x d + gate d * ∑ k, u k * w k d

/-- The layer's second half for a row: `x` the row, `a` and `s` the mixers' rows, `mod` the six modulations one after
    the other, then the scales of the four normalisations and the three matrices. -/
def row (x : Fin 1024 → EReal) (a s : Fin 512 → EReal) (mod : Fin 6144 → EReal) (ga gs : Fin 512 → EReal) (gm gf : Fin 1024 → EReal)
    (wo : Fin 1024 → Fin 1024 → EReal) (w1 : Fin 1024 → Fin 4096 → EReal) (w2 : Fin 4096 → Fin 1024 → EReal) : Fin 1024 → EReal :=
  let x1 := mixRow x (fun d => mod ⟨2048 + d.val, by omega⟩) (normRow 0x44000000#32 a ga) (normRow 0x44000000#32 s gs) wo
  let h := modRow x1 gm (fun d => mod ⟨4096 + d.val, by omega⟩) (fun d => mod ⟨3072 + d.val, by omega⟩)
  normRow 0x44800000#32 (mlpRow x1 (fun d => mod ⟨5120 + d.val, by omega⟩) (hiddenUnit h w1) w2) gf

/-- A sum in two stretches. -/
theorem sum_split (a b n : ℕ) (h : n = a + b) (f : Fin n → EReal) :
    ∑ k, f k = ∑ k : Fin a, f ⟨k.val, by omega⟩ + ∑ k : Fin b, f ⟨a + k.val, by omega⟩ := by
  subst h
  exact Fin.sum_univ_add f

/-- A sum in four stretches of 1024. -/
theorem sum_chunks (f : Fin 4096 → EReal) :
    ∑ k, f k = ∑ k : Fin 1024, f ⟨0 + k.val, by omega⟩ + ∑ k : Fin 1024, f ⟨1024 + k.val, by omega⟩
      + ∑ k : Fin 1024, f ⟨2048 + k.val, by omega⟩ + ∑ k : Fin 1024, f ⟨3072 + k.val, by omega⟩ := by
  rw [sum_split 3072 1024 4096 rfl, sum_split 2048 1024 3072 rfl, sum_split 1024 1024 2048 rfl]
  simp only [Nat.zero_add]

end Cert.MlpRow

end
-- ==== Proof.MlpRows.lean ====
/-
  What the call of the output projection and the MLP computes for a block of rows, read at a row and a column.
-/
module

public import proofs.«01_k».proof.Proof.Gen.MlpIdeal.Value
public import proofs.«01_k».proof.Proof.MlpRow
public import Idealize.ShloMosaic.Lib.Pointwise
public import Idealize.ShloMosaic.Lib.Pipeline.ValueKit

@[expose] public section

set_option maxRecDepth 16384

noncomputable section

namespace Cert.MlpIdeal.Value

open Cert.MlpIdeal Cert.MlpIdeal.Gen Cert.MlpRow Idealize.ShloMosaic Idealize.ShloMosaic.TcCoe Idealize.SL.Sem

variable (r : Fin 256) (d : Fin 1024)

/-- The attention's rows normalised. -/
theorem pay7_at (v : Vec Ideal S1x256x512 .f32) (g : Vec Ideal S1x512 .f32) (k : Fin 512) :
    k0_pay7 v g (ix2 r k) = normRow 0x44000000#32 (fun j => v (ix3 0 r j)) (fun j => g (ix2 0 j)) k := by
  unfold normRow
  pointwise [k0_pay7]

/-- The row after the mixers. -/
theorem pay10_at (v1 : FVec Ideal S256x1024 .f32) (v3 : FVec Ideal S1x1024 .f32) (v25 : FVec Ideal S256x512 .bf16) (v26 : Vec Ideal S1x256x512 .f32)
    (v28 : Vec Ideal S1x512 .f32) (v42 v44 : Vec Ideal S512x1024 .bf16) :
    k0_pay10 v1 v3 v25 (k0_pay8 v26) v28 (k0_pay9 v26) v42 v44 (ix2 r d)
      = v1 (ix2 r d) + v3 (ix2 0 d) * (∑ k, v25 (ix2 r k) * v42 (ix2 k d)
        + ∑ k, normRow 0x44000000#32 (fun j => v26 (ix3 0 r j)) (fun j => v28 (ix2 0 j)) k * v44 (ix2 k d)) := by
  unfold normRow
  pointwise [k0_pay10, k0_pay8, k0_pay9]

/-- The MLP's input, from the row after the mixers. -/
theorem pay11_at (v1 : FVec Ideal S256x1024 .f32) (v3 v5 v7 : FVec Ideal S1x1024 .f32) (v25 : FVec Ideal S256x512 .bf16) (v27 : FVec Ideal S256x512 .f32)
    (v28 : Vec Ideal S1x512 .f32) (v29 : FVec Ideal S256x512 .f32) (v42 v44 : Vec Ideal S512x1024 .bf16) (v50 : Vec Ideal S1x1024 .f32) :
    k0_pay11 v1 v3 v5 v7 v25 v27 v28 v29 v42 v44 v50 (ix2 r d)
      = modRow (fun e => k0_pay10 v1 v3 v25 v27 v28 v29 v42 v44 (ix2 r e)) (fun e => v50 (ix2 0 e)) (fun e => v7 (ix2 0 e)) (fun e => v5 (ix2 0 e)) d := by
  unfold modRow normRow k0_pay11
  generalize k0_pay10 v1 v3 v25 v27 v28 v29 v42 v44 = z
  pointwise

/-- A stretch of 1024 hidden units through both matrices. -/
def stretch (h : FVec Ideal S256x1024 .bf16) (w1 w2 : Vec Ideal S1024x1024 .bf16) : EReal :=
  ∑ k, max (∑ e, h (ix2 r e) * w1 (ix2 e k)) (Ideal.ofBits .f32 0x00000000#32) * max (∑ e, h (ix2 r e) * w1 (ix2 e k)) (Ideal.ofBits .f32 0x00000000#32) * w2 (ix2 k d)

/-- The last stretch. -/
theorem pay14_at (h : FVec Ideal S256x1024 .bf16) (w1 w2 : Vec Ideal S1024x1024 .bf16) : k0_pay14 h w1 w2 (ix2 r d) = stretch r d h w1 w2 := by
  unfold stretch
  pointwise [k0_pay14]

/-- The first three stretches. -/
theorem pay13_at (h : FVec Ideal S256x1024 .bf16) (w1 w2 w3 w4 w5 w6 : Vec Ideal S1024x1024 .bf16) :
    k0_pay13 h k0_pay12 w1 w2 w3 w4 w5 w6 (ix2 r d) = stretch r d h w1 w2 + stretch r d h w3 w4 + stretch r d h w5 w6 := by
  unfold stretch
  pointwise [k0_pay13, k0_pay12]

/-- The last normalisation. -/
theorem pay1_at (v9 : FVec Ideal S1x1024 .f32) (v49 v97 v105 : FVec Ideal S256x1024 .f32) (v110 : Vec Ideal S1x1024 .f32) :
    k0_pay1 v9 v49 v97 v105 v110 (ix3 0 r d)
      = normRow 0x44800000#32 (fun e => v49 (ix2 r e) + v9 (ix2 0 e) * (v97 (ix2 r e) + v105 (ix2 r e))) (fun e => v110 (ix2 0 e)) d := by
  unfold normRow
  pointwise [k0_pay1]

/-- The five modulations a block reads. -/
theorem gate1_at (x : Vec Ideal S1x1x6144 .f32) : k0_pay3 (View.ld x r0_1) (ix2 0 d) = x (ix3 0 0 ⟨2048 + d.val, by omega⟩) := by
  pointwise [k0_pay3]
theorem shift_at (x : Vec Ideal S1x1x6144 .f32) : k0_pay4 (View.ld x r0_2) (ix2 0 d) = x (ix3 0 0 ⟨3072 + d.val, by omega⟩) := by
  pointwise [k0_pay4]
theorem scale_at (x : Vec Ideal S1x1x6144 .f32) : k0_pay5 (View.ld x r0_3) (ix2 0 d) = x (ix3 0 0 ⟨4096 + d.val, by omega⟩) := by
  pointwise [k0_pay5]
theorem gate2_at (x : Vec Ideal S1x1x6144 .f32) : k0_pay6 (View.ld x r0_4) (ix2 0 d) = x (ix3 0 0 ⟨5120 + d.val, by omega⟩) := by
  pointwise [k0_pay6]
theorem whole_at (x : Vec Ideal S1x256x1024 .f32) : k0_pay2 (View.ld x r0_0) (ix2 r d) = x (ix3 0 r d) := by
  pointwise [k0_pay2]

theorem ld_whole1 (x : Vec Ideal S1x256x512 .f32) : View.ld x r0_5 = x := View.ld_unit_zero (by decide) _ _
theorem ld_whole2 (x : Vec Ideal S1x512 .f32) : View.ld x r0_6 = x := View.ld_unit_zero (by decide) _ _
theorem ld_whole3 (x : Vec Ideal S1x1024 .f32) : View.ld x r0_9 = x := View.ld_unit_zero (by decide) _ _

/-- A stretch of hidden units read from the two matrices. -/
theorem stretch_ld (h : FVec Ideal S256x1024 .bf16) (x9 : Vec Ideal S1024x4096 .bf16) (x10 : Vec Ideal S4096x1024 .bf16) (o : ℕ) (i1) (i2) (ho : o + 1024 ≤ 4096) :
    stretch r d h (View.ld x9 (Rect.unit (s := S1024x4096) ![0, o] S1024x1024.size i1)) (View.ld x10 (Rect.unit (s := S4096x1024) ![o, 0] S1024x1024.size i2))
      = ∑ k : Fin 1024, hiddenUnit (fun e => h (ix2 r e)) (fun e k => x9 (ix2 e k)) ⟨o + k.val, by omega⟩ * x10 (ix2 ⟨o + k.val, by omega⟩ d) := by
  unfold stretch hiddenUnit
  pointwise

theorem out_at (x0 : Vec Ideal S1x256x1024 .f32) (x1 : Vec Ideal S1x256x512 .f32) (x2 : Vec Ideal S1x256x512 .f32) (x3 : Vec Ideal S1x1x6144 .f32) (x4 : Vec Ideal S1x512 .f32) (x5 : Vec Ideal S1x512 .f32) (x6 : Vec Ideal S1x1024 .f32) (x7 : Vec Ideal S1x1024 .f32) (x8 : Vec Ideal S1024x1024 .bf16) (x9 : Vec Ideal S1024x4096 .bf16) (x10 : Vec Ideal S4096x1024 .bf16) :
  out0_11 x0 x1 x2 x3 x4 x5 x6 x7 x8 x9 x10 (ix3 0 r d)
    = row (fun e => x0 (ix3 0 r e)) (fun e => x1 (ix3 0 r e)) (fun e => x2 (ix3 0 r e)) (fun e => x3 (ix3 0 0 e)) (fun e => x4 (ix2 0 e)) (fun e => x5 (ix2 0 e))
        (fun e => x6 (ix2 0 e)) (fun e => x7 (ix2 0 e)) (fun k e => x8 (ix2 k e)) (fun k e => x9 (ix2 k e)) (fun k e => x10 (ix2 k e)) d := by
  have hm : ∀ e, k0_pay10 (k0_pay2 (View.ld x0 r0_0)) (k0_pay3 (View.ld x3 r0_1)) (k0_pay7 x1 x4) (k0_pay8 x2) x5 (k0_pay9 x2) (View.ld x8 r0_7) (View.ld x8 r0_8) (ix2 r e)
      = mixRow (fun e => x0 (ix3 0 r e)) (fun d => x3 (ix3 0 0 ⟨2048 + d.val, by omega⟩)) (normRow 0x44000000#32 (fun e => x1 (ix3 0 r e)) (fun e => x4 (ix2 0 e)))
        (normRow 0x44000000#32 (fun e => x2 (ix3 0 r e)) (fun e => x5 (ix2 0 e))) (fun k e => x8 (ix2 k e)) e := by
    intro e
    rw [pay10_at, whole_at, gate1_at]
    unfold mixRow
    simp only [pay7_at]
    pointwise
  have hh : (fun e => k0_pay11 (k0_pay2 (View.ld x0 r0_0)) (k0_pay3 (View.ld x3 r0_1)) (k0_pay4 (View.ld x3 r0_2)) (k0_pay5 (View.ld x3 r0_3))
        (k0_pay7 x1 x4) (k0_pay8 x2) x5 (k0_pay9 x2) (View.ld x8 r0_7) (View.ld x8 r0_8) x6 (ix2 r e))
      = modRow (mixRow (fun e => x0 (ix3 0 r e)) (fun d => x3 (ix3 0 0 ⟨2048 + d.val, by omega⟩)) (normRow 0x44000000#32 (fun e => x1 (ix3 0 r e)) (fun e => x4 (ix2 0 e)))
        (normRow 0x44000000#32 (fun e => x2 (ix3 0 r e)) (fun e => x5 (ix2 0 e))) (fun k e => x8 (ix2 k e)))
        (fun e => x6 (ix2 0 e)) (fun d => x3 (ix3 0 0 ⟨4096 + d.val, by omega⟩)) (fun d => x3 (ix3 0 0 ⟨3072 + d.val, by omega⟩)) := by
    funext e
    rw [pay11_at, funext hm]
    simp only [scale_at, shift_at]
  frame_out
  unfold k0_pay20 k0_pay15 k0_pay16 k0_pay17 k0_pay18 k0_pay19
  rw [ld_whole1, ld_whole1, ld_whole2, ld_whole2, ld_whole3, pay1_at]
  unfold row
  refine congrArg (fun f => normRow _ f _ _) (funext fun e => ?_)
  rw [hm, gate2_at, pay13_at, pay14_at]
  unfold mlpRow
  rw [sum_chunks, stretch_ld r e _ x9 x10 0 _ _ (by omega), stretch_ld r e _ x9 x10 1024 _ _ (by omega), stretch_ld r e _ x9 x10 2048 _ _ (by omega),
    stretch_ld r e _ x9 x10 3072 _ _ (by omega), hh]

end Cert.MlpIdeal.Value

end
-- ==== Proof.MlpArray.lean ====
/-
  The array the call of the output projection and the MLP leaves: every row is the layer's second half of that row.
-/
module

public import proofs.«01_k».proof.Proof.MlpRows
public import Idealize.ShloMosaic.Lib.Pipeline.Covers

@[expose] public section

set_option maxRecDepth 16384

noncomputable section

namespace Cert.MlpIdeal.Value

open Cert.MlpIdeal Cert.MlpIdeal.Gen Cert.MlpRow Idealize.ShloMosaic Idealize.ShloMosaic.TcCoe Idealize.SL.Sem

/-- The layer's second half, row by row; time `r` of the state-space mixer lies in row `r % 1024`, at segment `r / 1024`. -/
def secondHalf (x : FVec Ideal S2x8192x1024 .f32) (a : FVec Ideal S2x8192x512 .f32) (s : FVec Ideal S2x1024x4096 .f32) (mod : FVec Ideal S2x1x6144 .f32)
    (ga gs : FVec Ideal S1x512 .f32) (gm gf : FVec Ideal S1x1024 .f32) (wo : FVec Ideal S1024x1024 .bf16) (w1 : FVec Ideal S1024x4096 .bf16)
    (w2 : FVec Ideal S4096x1024 .bf16) : FVec Ideal S2x8192x1024 .f32 :=
  fun j => row (fun e => x (ix3 (j 0) (j 1) e)) (fun e => a (ix3 (j 0) (j 1) e))
    (fun e => s (ix3 (j 0) ⟨(j 1).val % 1024, by omega⟩ ⟨512 * ((j 1).val / 1024) + e.val, by have h : (j 1).val < 8192 := (j 1).isLt; omega⟩))
    (fun e => mod (ix3 (j 0) 0 e)) (fun e => ga (ix2 0 e)) (fun e => gs (ix2 0 e)) (fun e => gm (ix2 0 e)) (fun e => gf (ix2 0 e))
    (fun k e => wo (ix2 k e)) (fun k e => w1 (ix2 k e)) (fun k e => w2 (ix2 k e)) (j 2)

/-! ## The blocks' places -/

theorem map11 (i : grid0.Coords) : cc0_transform_11 i = ![(i 0).val, (i 1).val, 0] := by
  have h0 : (i 0).val < 2 := (i 0).isLt
  have h1 : (i 1).val < 32 := (i 1).isLt
  simp only [cc0_transform_11, BitVec.toNat_ofNat]
  congr! <;> omega

theorem index0 : ∀ t : Fin cfg0.N, (cfg0.win 0).index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, (cfg0.win 1).index t = ![(grid0.coords t 0).val, (grid0.coords t 1).val, 0] :=
  (by decide +kernel : ∀ t : Fin grid0.N, win0_1.index t = ![(grid0.coords t 0).val, (grid0.coords t 1).val, 0])
theorem index2 : ∀ t : Fin cfg0.N, (cfg0.win 2).index t = ![(grid0.coords t 0).val, (grid0.coords t 1).val % 4, (grid0.coords t 1).val / 4] :=
  (by decide +kernel : ∀ t : Fin grid0.N, win0_2.index t = ![(grid0.coords t 0).val, (grid0.coords t 1).val % 4, (grid0.coords t 1).val / 4])
theorem index3 : ∀ t : Fin cfg0.N, (cfg0.win 3).index t = ![(grid0.coords t 0).val, 0, 0] :=
  (by decide +kernel : ∀ t : Fin grid0.N, win0_3.index t = ![(grid0.coords t 0).val, 0, 0])
theorem index4 : ∀ t : Fin cfg0.N, (cfg0.win 4).index t = ![0, 0] := fun _ => rfl
theorem index5 : ∀ t : Fin cfg0.N, (cfg0.win 5).index t = ![0, 0] := fun _ => rfl
theorem index6 : ∀ t : Fin cfg0.N, (cfg0.win 6).index t = ![0, 0] := fun _ => rfl
theorem index7 : ∀ t : Fin cfg0.N, (cfg0.win 7).index t = ![0, 0] := fun _ => rfl
theorem index8 : ∀ t : Fin cfg0.N, (cfg0.win 8).index t = ![0, 0] := fun _ => rfl
theorem index9 : ∀ t : Fin cfg0.N, (cfg0.win 9).index t = ![0, 0] := fun _ => rfl
theorem index10 : ∀ t : Fin cfg0.N, (cfg0.win 10).index t = ![0, 0] := fun _ => rfl
theorem index11 (t : Fin cfg0.N) : (cfg0.win 11).index t = ![(grid0.coords t 0).val, (grid0.coords t 1).val, 0] := map11 _

variable (m : (ℓ : Loc nD τ sig) → Buf (Elt Ideal) ℓ) (c : Dev nD) (t : Fin cfg0.N)

/-- The batch of a grid point. -/
def batchOf : Fin 2 := ⟨(grid0.coords t 0).val, (grid0.coords t 0).isLt⟩
/-- The block of rows of a grid point. -/
def rowsOf : Fin 32 := ⟨(grid0.coords t 1).val, (grid0.coords t 1).isLt⟩
/-- The row of the array a block's row is. -/
def rowOf (r : Fin 256) : Fin 8192 := ⟨256 * (rowsOf t).val + r.val, by omega⟩

theorem x_read (r : Fin 256) (e : Fin 1024) : iblk m c 0 t (ix3 0 r e)
    = (m ((c.tc : Thread nD τ).loc main_arg0) : FVec Ideal S2x8192x1024 .f32) (ix3 (batchOf t) (rowOf t r) e) := by
  blk_ext [iblk, V, index0 t, batchOf, rowOf, rowsOf]
theorem a_read (r : Fin 256) (e : Fin 512) : iblk m c 1 t (ix3 0 r e)
    = (m ((c.tc : Thread nD τ).loc main_arg1) : FVec Ideal S2x8192x512 .f32) (ix3 (batchOf t) (rowOf t r) e) := by
  blk_ext [iblk, V, index1 t, batchOf, rowOf, rowsOf]
theorem s_read (r : Fin 256) (e : Fin 512) : iblk m c 2 t (ix3 0 r e)
    = (m ((c.tc : Thread nD τ).loc main_arg2) : FVec Ideal S2x1024x4096 .f32) (ix3 (batchOf t) ⟨(rowOf t r).val % 1024, by omega⟩
        ⟨512 * ((rowOf t r).val / 1024) + e.val, by omega⟩) := by
  blk_ext [iblk, V, index2 t, batchOf, rowOf, rowsOf]
theorem mod_read (e : Fin 6144) : iblk m c 3 t (ix3 0 0 e)
    = (m ((c.tc : Thread nD τ).loc main_arg3) : FVec Ideal S2x1x6144 .f32) (ix3 (batchOf t) 0 e) := by
  blk_ext [iblk, V, index3 t, batchOf]
theorem ga_read : iblk m c 4 t = (m ((c.tc : Thread nD τ).loc main_arg4) : FVec Ideal S1x512 .f32) := by
  funext j; idx_vars j; blk_ext [iblk, V, index4 t]
theorem gs_read : iblk m c 5 t = (m ((c.tc : Thread nD τ).loc main_arg5) : FVec Ideal S1x512 .f32) := by
  funext j; idx_vars j; blk_ext [iblk, V, index5 t]
theorem gm_read : iblk m c 6 t = (m ((c.tc : Thread nD τ).loc main_arg6) : FVec Ideal S1x1024 .f32) := by
  funext j; idx_vars j; blk_ext [iblk, V, index6 t]
theorem gf_read : iblk m c 7 t = (m ((c.tc : Thread nD τ).loc main_arg7) : FVec Ideal S1x1024 .f32) := by
  funext j; idx_vars j; blk_ext [iblk, V, index7 t]
theorem wo_read : iblk m c 8 t = (m ((c.tc : Thread nD τ).loc main_arg8) : FVec Ideal S1024x1024 .bf16) := by
  funext j; idx_vars j; blk_ext [iblk, V, index8 t]
theorem w1_read : iblk m c 9 t = (m ((c.tc : Thread nD τ).loc main_arg9) : FVec Ideal S1024x4096 .bf16) := by
  funext j; idx_vars j; blk_ext [iblk, V, index9 t]
theorem w2_read : iblk m c 10 t = (m ((c.tc : Thread nD τ).loc main_arg10) : FVec Ideal S4096x1024 .bf16) := by
  funext j; idx_vars j; blk_ext [iblk, V, index10 t]

theorem out_place (r : Fin 256) (d : Fin 1024) : ((cfg0.win 11).blk t).view.emb (ix3 0 r d) = ix3 (batchOf t) (rowOf t r) d := by
  blk_ext [index11 t, batchOf, rowOf, rowsOf]

/-- Some grid point writes any given block. -/
theorem point (b : Fin 2) (p : Fin 32) : ∃ i : grid0.Coords, cc0_transform_11 i = ![b.val, p.val, 0] :=
  ⟨fun a => match a with | 0 => b | 1 => p, map11 _⟩

/-- The array the call leaves. -/
theorem array : (dats m 0 c).arrAt 11 cfg0.N = secondHalf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) := by
  refine (dats m 0 c).arrAt_eq_of_covers 11 _ ((cfg0.win 11).covers_of_indexMap_surj rfl (by decide) fun β =>
    (point (β 0) (β 1)).imp fun i hi a => (congrFun hi a).trans (by fin_cases a <;> first | rfl | exact congrArg Fin.val (Subsingleton.elim (0 : Fin 1) (β 2)))) fun t hf y => ?_
  blk_simp
  rw [after0_11]
  idx_vars y
  rw [Subsingleton.elim y0 0, out_at]
  refine Eq.trans ?_ (congrArg _ (out_place t y1 y2)).symm
  unfold secondHalf
  simp only [x_read, a_read, s_read, mod_read, ga_read, gs_read, gm_read, gf_read, wo_read, w1_read, w2_read]
  rfl

end Cert.MlpIdeal.Value

end
-- ==== Proof.MlpReference.lean ====
/-
  The plain second half of the layer at an index.
-/
module

public import proofs.«01_k».proof.Proof.Gen.MlpRefIdeal.Run
public import proofs.«01_k».proof.Proof.MlpRow
public import Idealize.ShloMosaic.Lib.Pointwise
public import Idealize.ShloMosaic.Lib.Tactic.CleanTypes

@[expose] public section

set_option maxRecDepth 16384

noncomputable section

namespace Cert.MlpRefIdeal.Value

open Cert.MlpRefIdeal Cert.MlpRefIdeal.Gen Cert.MlpRow Idealize.ShloMosaic Idealize.ShloMosaic.TcCoe Idealize.SL.Sem

/-- The state-space mixer's rows in the order of time. -/
def inTime (s : FVec Ideal S2x1024x4096 .f32) : FVec Ideal S2x8192x512 .f32 :=
  shapeCast _ (transpose S2x8x1024x512 [0, 2, 1, 3] (shapeCast _ s shapeCasts_S2x1024x4096_S2x1024x8x512) transposes_S2x1024x8x512_S2x8x1024x512_0_2_1_3) shapeCasts_S2x8x1024x512_S2x8192x512

/-- The normalisation of rows of 512. -/
def normNarrow (x : FVec Ideal S2x8192x512 .f32) (g : FVec Ideal S1x512 .f32) : FVec Ideal S2x8192x512 .f32 :=
  mulf (mulf x (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf x x) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![1, 2] bcast_S1x512_S1x1x512_1_2 g))

/-- The normalisation of rows of 1024. -/
def normWide (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 g))

/-- The two mixers' rows side by side. -/
def sideBySide (a s : FVec Ideal S2x8192x512 .f32) : FVec Ideal S2x8192x1024 .f32 :=
  concatenate S2x8192x1024 2 [⟨S2x8192x512, a⟩, ⟨S2x8192x512, s⟩] concatenates_S2x8192x512_S2x8192x512_S2x8192x1024_d2

/-- The rows after the mixers. -/
def mixed (x : FVec Ideal S2x8192x1024 .f32) (mod : FVec Ideal S2x1x6144 .f32) (z : FVec Ideal S2x8192x1024 .f32) (w : FVec Ideal S1024x1024 .bf16) : FVec Ideal S2x8192x1024 .f32 :=
  addf x (mulf (broadcastInDim S2x8192x1024 ![0, 1, 2] bcast_S2x1x1024_S2x8192x1024_0_1_2 (extractStridedSlice S2x1x1024 ![0, 0, 2048] mod slices_S2x1x6144_S2x1x1024_0_0_2048)) (Host.dotGeneral (φ₁ := .f32) (φ₂ := .f32) dot_S2x8192x1024_S1024x1024_S2x8192x1024_2_0_01_1_n_n none z (extf .f32 w bitsLt_bf16_f32)))

/-- The MLP's input, from the normalised rows. -/
def modulated (z : FVec Ideal S2x8192x1024 .f32) (mod : FVec Ideal S2x1x6144 .f32) : FVec Ideal S2x8192x1024 .f32 :=
  addf (mulf z (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] mod slices_S2x1x6144_S2x1x1024_0_0_4096)))) (broadcastInDim S2x8192x1024 ![0, 1, 2] bcast_S2x1x1024_S2x8192x1024_0_1_2 (extractStridedSlice S2x1x1024 ![0, 0, 3072] mod slices_S2x1x6144_S2x1x1024_0_0_3072))

/-- What is positive of the first product. -/
def rectified (h : FVec Ideal S2x8192x1024 .f32) (w : FVec Ideal S1024x4096 .bf16) : FVec Ideal S2x8192x4096 .f32 :=
  maximumf (Host.dotGeneral (φ₁ := .f32) (φ₂ := .f32) dot_S2x8192x1024_S1024x4096_S2x8192x4096_2_0_01_1_n_n none h (extf .f32 w bitsLt_bf16_f32)) (broadcastInDim S2x8192x4096 ![] bcast_S_S2x8192x4096 (constant S_ .f32 0x00000000#32))

/-- The rows after the MLP. -/
def channelMixed (x : FVec Ideal S2x8192x1024 .f32) (mod : FVec Ideal S2x1x6144 .f32) (u : FVec Ideal S2x8192x4096 .f32) (w : FVec Ideal S4096x1024 .bf16) : FVec Ideal S2x8192x1024 .f32 :=
  addf x (mulf (broadcastInDim S2x8192x1024 ![0, 1, 2] bcast_S2x1x1024_S2x8192x1024_0_1_2 (extractStridedSlice S2x1x1024 ![0, 0, 5120] mod slices_S2x1x6144_S2x1x1024_0_0_5120)) (Host.dotGeneral (φ₁ := .f32) (φ₂ := .f32) dot_S2x8192x4096_S4096x1024_S2x8192x1024_2_0_01_1_n_n none (mulf u u) (extf .f32 w bitsLt_bf16_f32)))

/-- The result from its arguments. -/
def result (a0 : FVec Ideal S2x8192x1024 .f32) (a1 : FVec Ideal S2x8192x512 .f32) (a2 : FVec Ideal S2x1024x4096 .f32) (a3 : FVec Ideal S2x1x6144 .f32)
    (a4 a5 : FVec Ideal S1x512 .f32) (a6 a7 : FVec Ideal S1x1024 .f32) (a8 : FVec Ideal S1024x1024 .bf16) (a9 : FVec Ideal S1024x4096 .bf16)
    (a10 : FVec Ideal S4096x1024 .bf16) : FVec Ideal S2x8192x1024 .f32 :=
  normWide (channelMixed (mixed a0 a3 (sideBySide (normNarrow a1 a4) (normNarrow (inTime a2) a5)) a8) a3
    (rectified (modulated (normWide (mixed a0 a3 (sideBySide (normNarrow a1 a4) (normNarrow (inTime a2) a5)) a8) a6) a3) a9) a10) a7

theorem res_eq (m : (ℓ : Loc nD τ sig) → Buf (Elt Ideal) ℓ) (c : Dev nD) :
    res_main_v81 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

section
variable (b : Fin 2) (r : Fin 8192) (x : FVec Ideal S2x8192x1024 .f32) (mod : FVec Ideal S2x1x6144 .f32)

theorem inTime_at (s : FVec Ideal S2x1024x4096 .f32) (k : Fin 512) :
    inTime s (ix3 b r k) = s (ix3 b ⟨r.val % 1024, by omega⟩ ⟨512 * (r.val / 1024) + k.val, by omega⟩) := by
  unfold inTime
  pointwise
  simp only [Nat.mul_comm (r.val / 1024) 512]

theorem normNarrow_at (x : FVec Ideal S2x8192x512 .f32) (g : FVec Ideal S1x512 .f32) (k : Fin 512) :
    normNarrow x g (ix3 b r k) = normRow 0x44000000#32 (fun e => x (ix3 b r e)) (fun e => g (ix2 0 e)) k := by
  unfold normNarrow normRow
  pointwise

theorem normWide_at (g : FVec Ideal S1x1024 .f32) (d : Fin 1024) :
    normWide x g (ix3 b r d) = normRow 0x44800000#32 (fun e => x (ix3 b r e)) (fun e => g (ix2 0 e)) d := by
  unfold normWide normRow
  pointwise

theorem left_at (u v : FVec Ideal S2x8192x512 .f32) (k : Fin 512) : sideBySide u v (ix3 b r ⟨k.val, by omega⟩) = u (ix3 b r k) := by
  unfold sideBySide
  pointwise

theorem right_at (u v : FVec Ideal S2x8192x512 .f32) (k : Fin 512) : sideBySide u v (ix3 b r ⟨512 + k.val, by omega⟩) = v (ix3 b r k) := by
  unfold sideBySide
  pointwise

theorem mixed_at (u v : FVec Ideal S2x8192x512 .f32) (w : FVec Ideal S1024x1024 .bf16) (d : Fin 1024) :
    mixed x mod (sideBySide u v) w (ix3 b r d)
      = mixRow (fun e => x (ix3 b r e)) (fun e => mod (ix3 b 0 ⟨2048 + e.val, by omega⟩)) (fun k => u (ix3 b r k)) (fun k => v (ix3 b r k)) (fun k e => w (ix2 k e)) d := by
  have h : mixed x mod (sideBySide u v) w (ix3 b r d)
      = x (ix3 b r d) + mod (ix3 b 0 ⟨2048 + d.val, by omega⟩) * ∑ k, sideBySide u v (ix3 b r k) * w (ix2 k d) := by
    unfold mixed
    generalize sideBySide u v = z
    pointwise
  rw [h, sum_split 512 512 1024 rfl]
  simp only [left_at, right_at]
  rfl

theorem modulated_at (g : FVec Ideal S1x1024 .f32) (d : Fin 1024) :
    modulated (normWide x g) mod (ix3 b r d)
      = modRow (fun e => x (ix3 b r e)) (fun e => g (ix2 0 e)) (fun e => mod (ix3 b 0 ⟨4096 + e.val, by omega⟩)) (fun e => mod (ix3 b 0 ⟨3072 + e.val, by omega⟩)) d := by
  unfold modRow
  rw [← normWide_at]
  generalize normWide x g = z
  unfold modulated
  pointwise

theorem channelMixed_at (h : FVec Ideal S2x8192x1024 .f32) (w1 : FVec Ideal S1024x4096 .bf16) (w2 : FVec Ideal S4096x1024 .bf16) (d : Fin 1024) :
    channelMixed x mod (rectified h w1) w2 (ix3 b r d)
      = mlpRow (fun e => x (ix3 b r e)) (fun e => mod (ix3 b 0 ⟨5120 + e.val, by omega⟩)) (hiddenUnit (fun e => h (ix3 b r e)) (fun e k => w1 (ix2 e k))) (fun k e => w2 (ix2 k e)) d := by
  unfold channelMixed rectified mlpRow hiddenUnit
  pointwise

theorem result_at (a0 : FVec Ideal S2x8192x1024 .f32) (a1 : FVec Ideal S2x8192x512 .f32) (a2 : FVec Ideal S2x1024x4096 .f32) (a3 : FVec Ideal S2x1x6144 .f32)
    (a4 a5 : FVec Ideal S1x512 .f32) (a6 a7 : FVec Ideal S1x1024 .f32) (a8 : FVec Ideal S1024x1024 .bf16) (a9 : FVec Ideal S1024x4096 .bf16)
    (a10 : FVec Ideal S4096x1024 .bf16) (d : Fin 1024) :
    result a0 a1 a2 a3 a4 a5 a6 a7 a8 a9 a10 (ix3 b r d)
      = row (fun e => a0 (ix3 b r e)) (fun e => a1 (ix3 b r e)) (fun e => a2 (ix3 b ⟨r.val % 1024, by omega⟩ ⟨512 * (r.val / 1024) + e.val, by omega⟩))
          (fun e => a3 (ix3 b 0 e)) (fun e => a4 (ix2 0 e)) (fun e => a5 (ix2 0 e)) (fun e => a6 (ix2 0 e)) (fun e => a7 (ix2 0 e))
          (fun k e => a8 (ix2 k e)) (fun k e => a9 (ix2 k e)) (fun k e => a10 (ix2 k e)) d := by
  unfold result row
  simp only [normWide_at, channelMixed_at, modulated_at, mixed_at, normNarrow_at, inTime_at]

end

end Cert.MlpRefIdeal.Value

end
-- ==== Proof.MlpEqual.lean ====
/-
  The call of the output projection and the MLP and the plain second half of the layer agree.
-/
module

public import proofs.«01_k».proof.Proof.MlpArray
public import proofs.«01_k».proof.Proof.MlpReference
public import proofs.«01_k».proof.Defs

@[expose] public section

set_option maxRecDepth 16384

noncomputable section

namespace Cert.MlpEqual

open Idealize.ShloMosaic Idealize.ShloMosaic.TcCoe Idealize.SL.Sem

/-- The reference's composed term is the layer's second half of every row. -/
theorem reference_eq (m : (ℓ : Loc MlpRefIdeal.nD MlpRefIdeal.τ MlpRefIdeal.sig) → Buf (Elt Ideal) ℓ) (c : Dev MlpRefIdeal.nD) :
    MlpRefIdeal.Value.res_main_v81 m c = MlpIdeal.Value.secondHalf (m ((c.tc : Thread MlpRefIdeal.nD MlpRefIdeal.τ).loc MlpRefIdeal.main_arg0)) (m ((c.tc : Thread MlpRefIdeal.nD MlpRefIdeal.τ).loc MlpRefIdeal.main_arg1)) (m ((c.tc : Thread MlpRefIdeal.nD MlpRefIdeal.τ).loc MlpRefIdeal.main_arg2)) (m ((c.tc : Thread MlpRefIdeal.nD MlpRefIdeal.τ).loc MlpRefIdeal.main_arg3)) (m ((c.tc : Thread MlpRefIdeal.nD MlpRefIdeal.τ).loc MlpRefIdeal.main_arg4)) (m ((c.tc : Thread MlpRefIdeal.nD MlpRefIdeal.τ).loc MlpRefIdeal.main_arg5)) (m ((c.tc : Thread MlpRefIdeal.nD MlpRefIdeal.τ).loc MlpRefIdeal.main_arg6)) (m ((c.tc : Thread MlpRefIdeal.nD MlpRefIdeal.τ).loc MlpRefIdeal.main_arg7)) (m ((c.tc : Thread MlpRefIdeal.nD MlpRefIdeal.τ).loc MlpRefIdeal.main_arg8)) (m ((c.tc : Thread MlpRefIdeal.nD MlpRefIdeal.τ).loc MlpRefIdeal.main_arg9)) (m ((c.tc : Thread MlpRefIdeal.nD MlpRefIdeal.τ).loc MlpRefIdeal.main_arg10)) := by
  rw [MlpRefIdeal.Value.res_eq]
  funext j
  idx_vars j
  rw [MlpRefIdeal.Value.result_at]
  rfl

/-- The call computes what its reference computes. -/
theorem algebraic : Cert.algebraic_MlpIdeal_MlpRefIdeal := by
  intro m g m' g' hp ha
  refine ⟨fun c => (MlpIdeal.Gen.dats m 0 c).arrAt 11 MlpIdeal.cfg0.N, MlpIdeal.Value.run_blocks m g, ?_⟩
  refine (θ_run MlpRefIdeal.defs _ _).mono (fun r h c => ⟨(h c).1.trans ?_, (h c).2⟩) (MlpRefIdeal.Value.run (F := Ideal) m' g')
  obtain ⟨h0, h1, h2, h3, h4, h5, h6, h7, h8, h9, h10⟩ := ha c
  refine Eq.trans ?_ (MlpIdeal.Value.array m c).symm
  rw [reference_eq, h0, h1, h2, h3, h4, h5, h6, h7, h8, h9, h10]

/-- The reference runs, leaves its arguments and ends with every counter at zero. -/
theorem frame_reference (m : (ℓ : Loc MlpRefIdeal.nD MlpRefIdeal.τ MlpRefIdeal.sig) → Buf (Elt Ideal) ℓ) (ρ : Dev MlpRefIdeal.nD → PrngReg) :
    θ_run (MlpRefIdeal.defs (F := Ideal)) (onTc (τ := MlpRefIdeal.τ) (MlpRefIdeal.main (F := Ideal))) ⟨m, fun _ => 0, ρ⟩ (fun r => (∀ c : Dev MlpRefIdeal.nD,
      r.2.mem ((c.tc : Thread MlpRefIdeal.nD MlpRefIdeal.τ).loc MlpRefIdeal.main_arg0) = m ((c.tc : Thread MlpRefIdeal.nD MlpRefIdeal.τ).loc MlpRefIdeal.main_arg0)
      ∧ r.2.mem ((c.tc : Thread MlpRefIdeal.nD MlpRefIdeal.τ).loc MlpRefIdeal.main_arg1) = m ((c.tc : Thread MlpRefIdeal.nD MlpRefIdeal.τ).loc MlpRefIdeal.main_arg1)
      ∧ r.2.mem ((c.tc : Thread MlpRefIdeal.nD MlpRefIdeal.τ).loc MlpRefIdeal.main_arg2) = m ((c.tc : Thread MlpRefIdeal.nD MlpRefIdeal.τ).loc MlpRefIdeal.main_arg2)
      ∧ r.2.mem ((c.tc : Thread MlpRefIdeal.nD MlpRefIdeal.τ).loc MlpRefIdeal.main_arg3) = m ((c.tc : Thread MlpRefIdeal.nD MlpRefIdeal.τ).loc MlpRefIdeal.main_arg3)
      ∧ r.2.mem ((c.tc : Thread MlpRefIdeal.nD MlpRefIdeal.τ).loc MlpRefIdeal.main_arg4) = m ((c.tc : Thread MlpRefIdeal.nD MlpRefIdeal.τ).loc MlpRefIdeal.main_arg4)
      ∧ r.2.mem ((c.tc : Thread MlpRefIdeal.nD MlpRefIdeal.τ).loc MlpRefIdeal.main_arg5) = m ((c.tc : Thread MlpRefIdeal.nD MlpRefIdeal.τ).loc MlpRefIdeal.main_arg5)
      ∧ r.2.mem ((c.tc : Thread MlpRefIdeal.nD MlpRefIdeal.τ).loc MlpRefIdeal.main_arg6) = m ((c.tc : Thread MlpRefIdeal.nD MlpRefIdeal.τ).loc MlpRefIdeal.main_arg6)
      ∧ r.2.mem ((c.tc : Thread MlpRefIdeal.nD MlpRefIdeal.τ).loc MlpRefIdeal.main_arg7) = m ((c.tc : Thread MlpRefIdeal.nD MlpRefIdeal.τ).loc MlpRefIdeal.main_arg7)
      ∧ r.2.mem ((c.tc : Thread MlpRefIdeal.nD MlpRefIdeal.τ).loc MlpRefIdeal.main_arg8) = m ((c.tc : Thread MlpRefIdeal.nD MlpRefIdeal.τ).loc MlpRefIdeal.main_arg8)
      ∧ r.2.mem ((c.tc : Thread MlpRefIdeal.nD MlpRefIdeal.τ).loc MlpRefIdeal.main_arg9) = m ((c.tc : Thread MlpRefIdeal.nD MlpRefIdeal.τ).loc MlpRefIdeal.main_arg9)
      ∧ r.2.mem ((c.tc : Thread MlpRefIdeal.nD MlpRefIdeal.τ).loc MlpRefIdeal.main_arg10) = m ((c.tc : Thread MlpRefIdeal.nD MlpRefIdeal.τ).loc MlpRefIdeal.main_arg10))
      ∧ r.2.sem = fun _ => 0) :=
  (θ_run MlpRefIdeal.defs _ _).mono (fun r h => ⟨fun c => (h c).2, sem_eq_zero_of_no_sems (by decide) r.2⟩)
    (MlpRefIdeal.Value.run (F := Ideal) m ρ)

end Cert.MlpEqual

end
-- ==== Proof.InprojRow.lean ====
/-
  A row of the layer's first half: the modulated row through the input projection, and the rotary embedding of a row of
  eight heads.
-/
module

public import proofs.«01_k».proof.Proof.MlpRow
public import Idealize.ShloMosaic.Lib.Pointwise

@[expose] public section

noncomputable section

namespace Cert.InprojRow

open Idealize.ShloMosaic Cert.MlpRow

/-- A row through a matrix. -/
def proj {n : ℕ} (h : Fin 1024 → EReal) (w : Fin 1024 → Fin n → EReal) (j : Fin n) : EReal := ∑ e, h e * w e j

/-- The rotary embedding of a row of eight heads of 64: the first half of a head with the second half. -/
def rot (f : Fin 512 → EReal) (cs sn : Fin 32 → EReal) (j : Fin 512) : EReal :=
  if h : j.val % 64 < 32 then f j * cs ⟨j.val % 32, by omega⟩ - f ⟨j.val + 32, by omega⟩ * sn ⟨j.val % 32, by omega⟩
  else f ⟨j.val - 32, by omega⟩ * sn ⟨j.val % 32, by omega⟩ + f j * cs ⟨j.val % 32, by omega⟩

/-- The angle of a position for a frequency. -/
def angle (t : Fin 8192) (i : Fin 32) : EReal :=
  (((BitVec.ofNat 32 t.val).toInt : ℝ) : EReal)
    * Ideal.pow (Ideal.ofBits .f32 0x461C4000#32) (Ideal.div (-(((BitVec.ofNat 32 i.val).toInt : ℝ) : EReal)) (Ideal.ofBits .f32 0x42000000#32))

/-- A row of the first half before its heads are turned: queries, keys, values and the other mixer's inputs side by side. -/
def projRow (x g : Fin 1024 → EReal) (mod : Fin 6144 → EReal) (w : Fin 1024 → Fin 2048 → EReal) : Fin 2048 → EReal :=
  proj (modRow x g (fun e => mod ⟨1024 + e.val, by omega⟩) (fun e => mod ⟨e.val, by omega⟩)) w

/-- The heads of a row turned by the angles of a position. -/
def turnRow (t : Fin 8192) (f : Fin 512 → EReal) : Fin 512 → EReal :=
  rot f (fun i => Ideal.cos (angle t i)) (fun i => Ideal.sin (angle t i))

/-- The product of a row and a matrix, both split into a rounded part and the remainder, the remainders' product left out. -/
def splitProj {n : ℕ} (h : Fin 1024 → EReal) (w : Fin 1024 → Fin n → EReal) (j : Fin n) : EReal :=
  (∑ e, h e * w e j) + (∑ e, (h e - h e) * w e j) + ∑ e, h e * (w e j - w e j)

/-- Of real numbers nothing remains, and the split product is the product. -/
theorem splitProj_eq {n : ℕ} (h : Fin 1024 → EReal) (w : Fin 1024 → Fin n → EReal) (hh : ∀ e, ∃ y : ℝ, h e = y) (hw : ∀ e j, ∃ y : ℝ, w e j = y) (j : Fin n) :
    splitProj h w j = proj h w j := by
  have h0 : ∀ e, h e - h e = 0 := fun e => by
    obtain ⟨y, hy⟩ := hh e
    rw [hy, ← EReal.coe_sub, sub_self, EReal.coe_zero]
  have w0 : ∀ e, w e j - w e j = 0 := fun e => by
    obtain ⟨y, hy⟩ := hw e j
    rw [hy, ← EReal.coe_sub, sub_self, EReal.coe_zero]
  unfold splitProj proj
  simp only [h0, w0, zero_mul, mul_zero, Finset.sum_const_zero, add_zero]

theorem word_len : Ideal.ofBits .f32 0x44800000#32 = ((1024 : ℝ) : EReal) := by
  simp [Ideal.ofBits, Ideal.ieee]
  rw [← EReal.coe_mul]
  norm_num
theorem word_one : Ideal.ofBits .f32 0x3F800000#32 = ((1 : ℝ) : EReal) := by
  simp [Ideal.ofBits, Ideal.ieee]
  rw [← EReal.coe_mul]
  norm_num
theorem word_eps : ∃ e : ℝ, 0 < e ∧ Ideal.ofBits .f32 0x358637BD#32 = (e : EReal) := by
  refine ⟨_, ?_, by simp [Ideal.ofBits, Ideal.ieee]; rfl⟩
  norm_num

/-- A square is not negative. -/
theorem square_nonneg (x : EReal) : 0 ≤ x * x := by
  rcases le_total 0 x with h | h
  · exact mul_nonneg h h
  · have := mul_nonneg (EReal.neg_nonneg.2 h) (EReal.neg_nonneg.2 h)
    rwa [neg_mul_neg] at this

/-- The normalised row is real where its gain is, whatever the row. -/
theorem normRow_real (x g : Fin 1024 → EReal) (d : Fin 1024) (hg : ∃ y : ℝ, g d = y) : ∃ y : ℝ, normRow 0x44800000#32 x g d = y := by
  obtain ⟨γ, hγ⟩ := hg
  obtain ⟨ε, hε, he⟩ := word_eps
  unfold normRow
  rw [word_len, he, hγ, Ideal.div_coe (by norm_num)]
  by_cases hx : ∀ j, ∃ y : ℝ, x j = y
  · choose y hy using hx
    have hc : ∑ j, x j * x j = ((∑ j, y j * y j : ℝ) : EReal) := by
      simp only [hy, ← EReal.coe_mul]
      exact (map_sum (⟨⟨Real.toEReal, EReal.coe_zero⟩, EReal.coe_add⟩ : ℝ →+ EReal) _ _).symm
    rw [hc, hy, ← EReal.coe_mul, ← EReal.coe_add]
    have hp : 0 < (∑ j, y j * y j) * (1 / 1024) + ε :=
      add_pos_of_nonneg_of_pos (mul_nonneg (Finset.sum_nonneg fun j _ => mul_self_nonneg _) (by norm_num)) hε
    rw [Ideal.rsqrt_coe, if_neg (not_lt.2 hp.le), if_neg hp.ne']
    simp only [← EReal.coe_mul]
    exact ⟨_, rfl⟩
  · push Not at hx
    obtain ⟨j, hj⟩ := hx
    have hs : x j * x j = ⊤ := by
      induction hxj : x j with
      | bot => rfl
      | top => rfl
      | coe y => exact absurd hxj (hj y)
    have ht : ∑ j, x j * x j = ⊤ := top_le_iff.1 (hs ▸ Finset.single_le_sum (f := fun j => x j * x j) (fun i _ => square_nonneg (x i)) (Finset.mem_univ j))
    rw [ht, EReal.top_mul_coe_of_pos (by norm_num), EReal.top_add_coe, Ideal.rsqrt_top, mul_zero, zero_mul]
    exact ⟨0, rfl⟩

/-- The modulated row is real where the gain and the modulations are. -/
theorem modRow_real (x g scale shift : Fin 1024 → EReal) (hg : ∀ d, ∃ y : ℝ, g d = y) (hc : ∀ d, ∃ y : ℝ, scale d = y) (hs : ∀ d, ∃ y : ℝ, shift d = y)
    (d : Fin 1024) : ∃ y : ℝ, modRow x g scale shift d = y := by
  obtain ⟨a, ha⟩ := normRow_real x g d (hg d)
  obtain ⟨b, hb⟩ := hc d
  obtain ⟨c, hc⟩ := hs d
  unfold modRow
  rw [ha, hb, hc, word_one]
  exact ⟨a * (1 + b) + c, by push_cast; rfl⟩

/-- A mean over 256 rows is the sum times one 256th. -/
theorem mean_eq (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee]
    rw [← EReal.coe_mul]
    norm_num
  have h2 : Ideal.ofBits .f32 0x3B800000#32 = ((1 / 256 : ℝ) : EReal) := by
    simp [Ideal.ofBits, Ideal.ieee]
    rw [← EReal.coe_mul]
    norm_num
  rw [h1, h2, Ideal.div_coe (by norm_num)]

/-- The rotary embedding as a row times the cosines plus its partners times the signed sines. -/
theorem rot_eq (f : Fin 512 → EReal) (cs sn : Fin 32 → EReal) (j : Fin 512) (p s : EReal)
    (h1 : ∀ h : j.val % 64 < 32, p = f ⟨j.val + 32, by omega⟩ ∧ s = -sn ⟨j.val % 32, by omega⟩)
    (h2 : ∀ h : ¬ j.val % 64 < 32, p = f ⟨j.val - 32, by omega⟩ ∧ s = sn ⟨j.val % 32, by omega⟩) :
    f j * cs ⟨j.val % 32, by omega⟩ + p * s = rot f cs sn j := by
  unfold rot
  by_cases h : j.val % 64 < 32
  · obtain ⟨hp, hs⟩ := h1 h
    rw [dif_pos h, hp, hs, mul_neg, sub_eq_add_neg]
  · obtain ⟨hp, hs⟩ := h2 h
    rw [dif_neg h, hp, hs, add_comm]

end Cert.InprojRow

end
-- ==== Proof.InprojRows.lean ====
/-
  What the call of the input projection computes for a block of rows, read at a row and a column.
-/
module

public import proofs.«01_k».proof.Proof.Gen.InprojIdeal.Value
public import proofs.«01_k».proof.Proof.InprojRow
public import Idealize.ShloMosaic.Lib.Pointwise
public import Idealize.ShloMosaic.Lib.Pipeline.ValueKit

@[expose] public section

set_option maxRecDepth 16384

noncomputable section

namespace Cert.InprojIdeal.Value

open Cert.InprojIdeal Cert.InprojIdeal.Gen Cert.MlpRow Cert.InprojRow Idealize.ShloMosaic Idealize.ShloMosaic.TcCoe Idealize.SL.Sem

variable (r : Fin 256)

/-- The modulated row. -/
theorem pay4_at (v0 : Vec Ideal S1x256x1024 .f32) (v2 v4 : Vec Ideal S1x1x1024 .f32) (v6 : Vec Ideal S1x1024 .f32) (d : Fin 1024) :
    k0_pay4 v0 v2 v4 v6 (ix2 r d) = modRow (fun e => v0 (ix3 0 r e)) (fun e => v6 (ix2 0 e)) (fun e => v4 (ix3 0 0 e)) (fun e => v2 (ix3 0 0 e)) d := by
  unfold modRow normRow
  pointwise [k0_pay4]

/-- The queries' and keys' product, of which the rounded parts are taken first. -/
theorem pay7_at (v0 : Vec Ideal S1x256x1024 .f32) (v2 v4 : Vec Ideal S1x1x1024 .f32) (v6 : Vec Ideal S1x1024 .f32) (whi wlo : Vec Ideal S1024x1024 .bf16) (j : Fin 1024) :
    k0_pay7 (k0_pay5 v0 v2 v4 v6) (k0_pay6 v0 v2 v4 v6 whi whi) wlo (ix2 r j)
      = (∑ e, k0_pay4 v0 v2 v4 v6 (ix2 r e) * whi (ix2 e j)) + (∑ e, (k0_pay4 v0 v2 v4 v6 (ix2 r e) - k0_pay4 v0 v2 v4 v6 (ix2 r e)) * whi (ix2 e j))
        + ∑ e, k0_pay4 v0 v2 v4 v6 (ix2 r e) * wlo (ix2 e j) := by
  unfold k0_pay7 k0_pay6 k0_pay5
  generalize k0_pay4 v0 v2 v4 v6 = z
  pointwise

/-- The values' and the other mixer's product. -/
theorem pay8_at (v0 : Vec Ideal S1x256x1024 .f32) (v2 v4 : Vec Ideal S1x1x1024 .f32) (v6 : Vec Ideal S1x1024 .f32) (w : Vec Ideal S1024x1024 .bf16) (j : Fin 1024) :
    k0_pay8 (k0_pay5 v0 v2 v4 v6) w (ix2 r j) = ∑ e, k0_pay4 v0 v2 v4 v6 (ix2 r e) * w (ix2 e j) := by
  unfold k0_pay8 k0_pay5
  generalize k0_pay4 v0 v2 v4 v6 = z
  pointwise

/-- A table repeated over four pairs of heads. -/
theorem pay9_at (v : Vec Ideal S256x128 .f32) (j : Fin 512) : k0_pay9 v (ix2 r j) = v (ix2 r ⟨j.val % 128, by omega⟩) := by
  pointwise [k0_pay9]
  split_ifs <;> exact congrArg v (congrArg (ix2 r) (Fin.ext (by simp only []; omega)))
theorem pay10_at (v : Vec Ideal S256x128 .f32) (j : Fin 512) : k0_pay10 v (ix2 r j) = v (ix2 r ⟨j.val % 128, by omega⟩) := pay9_at r v j

/-- The lanes of the first halves of the heads. -/
theorem pay11_at (j : Fin 512) : k0_pay11 (ix2 r j) = if j.val % 64 < 32 then 1#1 else 0#1 := by
  pointwise [k0_pay11]
  exact (by decide +kernel : ∀ j : Fin 512, IntOp.cmpi .eq (IntOp.andi (BitVec.ofNat 32 j.val) 32#32) 0#32 = if j.val % 64 < 32 then 1#1 else 0#1) j

/-- The tables of a block of rows: the cosines, and the sines with the sign of the first halves turned. -/
structure Tables (x6 x7 : Vec Ideal S256x128 .f32) (cs sn : Fin 256 → Fin 32 → EReal) : Prop where
  cos : ∀ r (l : Fin 128), x6 (ix2 r l) = cs r ⟨l.val % 32, by omega⟩
  sin : ∀ r (l : Fin 128), x7 (ix2 r l) = if l.val % 64 < 32 then -sn r ⟨l.val % 32, by omega⟩ else sn r ⟨l.val % 32, by omega⟩

/-- A row of eight heads, its partners brought by the two turns of the lanes, is the row's rotary embedding. -/
theorem turn_at (f : Fin 512 → EReal) (x6 x7 : Vec Ideal S256x128 .f32) (cs sn : Fin 256 → Fin 32 → EReal) (ht : Tables x6 x7 cs sn) (j : Fin 512) :
    f j * k0_pay9 x6 (ix2 r j) + Scalar.select (k0_pay11 (ix2 r j)) (f ⟨(j.val + 512 - 480) % 512, by omega⟩) (f ⟨(j.val + 512 - 32) % 512, by omega⟩) * k0_pay10 x7 (ix2 r j)
      = rot f (cs r) (sn r) j := by
  have hm : (⟨j.val % 128 % 32, by omega⟩ : Fin 32) = ⟨j.val % 32, by omega⟩ := Fin.ext (by simp only []; omega)
  rw [pay9_at, pay10_at, pay11_at, ht.cos, ht.sin, hm]
  refine rot_eq f (cs r) (sn r) j _ _ (fun h => ⟨?_, ?_⟩) (fun h => ⟨?_, ?_⟩)
  · rw [if_pos h]
    exact congrArg f (Fin.ext (by simp only []; omega))
  · rw [if_pos (show j.val % 128 % 64 < 32 by omega)]
  · rw [if_neg h]
    exact congrArg f (Fin.ext (by simp only []; omega))
  · rw [if_neg (show ¬ j.val % 128 % 64 < 32 by omega)]

/-- The keys' heads turned. -/
theorem pay12_at (v25 : FVec Ideal S256x1024 .bf16) (v35 : FVec Ideal S256x1024 .f32) (v36 : Vec Ideal S1024x1024 .bf16) (x6 x7 : Vec Ideal S256x128 .f32)
    (cs sn : Fin 256 → Fin 32 → EReal) (ht : Tables x6 x7 cs sn) (j : Fin 512) :
    k0_pay12 v25 v35 v36 x6 x7 (ix2 r j) = rot (fun k => k0_pay7 v25 v35 v36 (ix2 r ⟨512 + k.val, by omega⟩)) (cs r) (sn r) j := by
  rw [← turn_at r _ x6 x7 cs sn ht j]
  unfold k0_pay12
  generalize k0_pay7 v25 v35 v36 = z
  generalize k0_pay9 x6 = c
  generalize k0_pay10 x7 = s
  generalize k0_pay11 = mk
  pointwise

/-- The queries' heads turned. -/
theorem pay13_at (v25 : FVec Ideal S256x1024 .bf16) (v35 : FVec Ideal S256x1024 .f32) (v36 : Vec Ideal S1024x1024 .bf16) (x6 x7 : Vec Ideal S256x128 .f32)
    (cs sn : Fin 256 → Fin 32 → EReal) (ht : Tables x6 x7 cs sn) (j : Fin 512) :
    k0_pay13 v25 v35 v36 x6 x7 (ix3 0 r j) = rot (fun k => k0_pay7 v25 v35 v36 (ix2 r ⟨k.val, by omega⟩)) (cs r) (sn r) j := by
  rw [← turn_at r _ x6 x7 cs sn ht j]
  unfold k0_pay13
  generalize k0_pay7 v25 v35 v36 = z
  generalize k0_pay9 x6 = c
  generalize k0_pay10 x7 = s
  generalize k0_pay11 = mk
  pointwise

theorem pay14_at (v25 : FVec Ideal S256x1024 .bf16) (v35 : FVec Ideal S256x1024 .f32) (v36 : Vec Ideal S1024x1024 .bf16) (x6 x7 : Vec Ideal S256x128 .f32) (j : Fin 512) :
    k0_pay14 v25 v35 v36 x6 x7 (ix3 0 r j) = k0_pay12 v25 v35 v36 x6 x7 (ix2 r j) := by
  unfold k0_pay14
  generalize k0_pay12 v25 v35 v36 x6 x7 = z
  pointwise

/-- The mean of the block's keys. -/
theorem pay3_at (z : FVec Ideal S256x512 .f32) (j : Fin 512) : k0_pay3 z (ix4 0 0 0 j) = (∑ r, z (ix2 r j)) * Ideal.ofBits .f32 0x3B800000#32 := by
  pointwise [k0_pay3]

theorem pay1_at (z : FVec Ideal S256x1024 .f32) (j : Fin 512) : k0_pay1 z (ix3 0 r j) = z (ix2 r ⟨j.val, by omega⟩) := by
  pointwise [k0_pay1]
theorem pay2_at (z : FVec Ideal S256x1024 .f32) (j : Fin 512) : k0_pay2 z (ix3 0 r j) = z (ix2 r ⟨512 + j.val, by omega⟩) := by
  pointwise [k0_pay2]

section
variable (x0 : Vec Ideal S1x256x1024 .f32) (x1 : Vec Ideal S1x1x6144 .f32) (x2 : Vec Ideal S1x1024 .f32) (x3 x4 x5 : Vec Ideal S1024x1024 .bf16) (x6 x7 : Vec Ideal S256x128 .f32)

/-- The modulated row of a block. -/
def modulatedRow : Fin 1024 → EReal :=
  modRow (fun e => x0 (ix3 0 r e)) (fun e => x2 (ix2 0 e)) (fun e => x1 (ix3 0 0 ⟨1024 + e.val, by omega⟩)) (fun e => x1 (ix3 0 0 ⟨e.val, by omega⟩))

theorem ld_weights (x : Vec Ideal S1024x1024 .bf16) : View.ld x r0_4 = x := View.ld_unit_zero (by decide) _ _
theorem ld_table (x : Vec Ideal S256x128 .f32) : View.ld x r0_5 = x := View.ld_unit_zero (by decide) _ _

theorem pay4_ld (d : Fin 1024) : k0_pay4 (View.ld x0 r0_0) (View.ld x1 r0_1) (View.ld x1 r0_2) (View.ld x2 r0_3) (ix2 r d) = modulatedRow r x0 x1 x2 d := by
  rw [pay4_at]
  unfold modulatedRow
  pointwise

/-- Where rows and weights are real and the second weights are what the rounding left, the three products add up to one. -/
theorem product_at (hh : ∀ e, ∃ y : ℝ, modulatedRow r x0 x1 x2 e = y) (hw : ∀ e j, ∃ y : ℝ, x3 (ix2 e j) = y) (hlo : ∀ e j, x4 (ix2 e j) = x3 (ix2 e j) - x3 (ix2 e j)) (j : Fin 1024) :
    k0_pay7 (k0_pay15 x0 x1 x2 x3 x4 x5 x6 x7) (k0_pay16 x0 x1 x2 x3 x4 x5 x6 x7) (View.ld x4 r0_4) (ix2 r j)
      = proj (modulatedRow r x0 x1 x2) (fun e j => x3 (ix2 e j)) j := by
  unfold k0_pay15 k0_pay16
  rw [ld_weights, ld_weights, pay7_at, ← splitProj_eq _ _ hh hw]
  unfold splitProj
  simp only [pay4_ld, hlo]

theorem out8_at (hh : ∀ e, ∃ y : ℝ, modulatedRow r x0 x1 x2 e = y) (hw : ∀ e j, ∃ y : ℝ, x3 (ix2 e j) = y) (hlo : ∀ e j, x4 (ix2 e j) = x3 (ix2 e j) - x3 (ix2 e j))
    (cs sn : Fin 256 → Fin 32 → EReal) (ht : Tables x6 x7 cs sn) (j : Fin 512) :
    out0_8 x0 x1 x2 x3 x4 x5 x6 x7 (ix3 0 r j) = rot (fun k => proj (modulatedRow r x0 x1 x2) (fun e j => x3 (ix2 e j)) ⟨k.val, by omega⟩) (cs r) (sn r) j := by
  have hp := product_at r x0 x1 x2 x3 x4 x5 x6 x7 hh hw hlo
  unfold out0_8
  generalize k0_pay15 x0 x1 x2 x3 x4 x5 x6 x7 = u at hp ⊢
  generalize k0_pay16 x0 x1 x2 x3 x4 x5 x6 x7 = v at hp ⊢
  rw [ld_weights] at hp
  frame_out
  rw [pay13_at r _ _ _ _ _ cs sn ht]
  simp only [hp]

theorem keys_at (hh : ∀ e, ∃ y : ℝ, modulatedRow r x0 x1 x2 e = y) (hw : ∀ e j, ∃ y : ℝ, x3 (ix2 e j) = y) (hlo : ∀ e j, x4 (ix2 e j) = x3 (ix2 e j) - x3 (ix2 e j))
    (cs sn : Fin 256 → Fin 32 → EReal) (ht : Tables x6 x7 cs sn) (j : Fin 512) :
    k0_pay12 (k0_pay15 x0 x1 x2 x3 x4 x5 x6 x7) (k0_pay16 x0 x1 x2 x3 x4 x5 x6 x7) (View.ld x4 r0_4) (View.ld x6 r0_5) (View.ld x7 r0_5) (ix2 r j)
      = rot (fun k => proj (modulatedRow r x0 x1 x2) (fun e j => x3 (ix2 e j)) ⟨512 + k.val, by omega⟩) (cs r) (sn r) j := by
  rw [ld_table, ld_table, pay12_at r _ _ _ _ _ cs sn ht]
  simp only [product_at r x0 x1 x2 x3 x4 x5 x6 x7 hh hw hlo]

theorem out9_at (hh : ∀ e, ∃ y : ℝ, modulatedRow r x0 x1 x2 e = y) (hw : ∀ e j, ∃ y : ℝ, x3 (ix2 e j) = y) (hlo : ∀ e j, x4 (ix2 e j) = x3 (ix2 e j) - x3 (ix2 e j))
    (cs sn : Fin 256 → Fin 32 → EReal) (ht : Tables x6 x7 cs sn) (j : Fin 512) :
    out0_9 x0 x1 x2 x3 x4 x5 x6 x7 (ix3 0 r j) = rot (fun k => proj (modulatedRow r x0 x1 x2) (fun e j => x3 (ix2 e j)) ⟨512 + k.val, by omega⟩) (cs r) (sn r) j := by
  rw [← keys_at r x0 x1 x2 x3 x4 x5 x6 x7 hh hw hlo cs sn ht j, ← pay14_at]
  unfold out0_9
  generalize k0_pay15 x0 x1 x2 x3 x4 x5 x6 x7 = u
  generalize k0_pay16 x0 x1 x2 x3 x4 x5 x6 x7 = v
  frame_out

theorem pay17_at (j : Fin 1024) : k0_pay17 x0 x1 x2 x3 x4 x5 x6 x7 (ix2 r j) = proj (modulatedRow r x0 x1 x2) (fun e j => x5 (ix2 e j)) j := by
  unfold k0_pay17 k0_pay15 proj
  rw [ld_weights, pay8_at]
  simp only [pay4_ld]

theorem out10_at (j : Fin 512) :
    out0_10 x0 x1 x2 x3 x4 x5 x6 x7 (ix3 0 r j) = proj (modulatedRow r x0 x1 x2) (fun e j => x5 (ix2 e j)) ⟨j.val, by omega⟩ := by
  rw [← pay17_at r x0 x1 x2 x3 x4 x5 x6 x7]
  unfold out0_10
  generalize k0_pay17 x0 x1 x2 x3 x4 x5 x6 x7 = z
  frame_out
  rw [pay1_at]

theorem out11_at (j : Fin 512) :
    out0_11 x0 x1 x2 x3 x4 x5 x6 x7 (ix3 0 r j) = proj (modulatedRow r x0 x1 x2) (fun e j => x5 (ix2 e j)) ⟨512 + j.val, by omega⟩ := by
  rw [← pay17_at r x0 x1 x2 x3 x4 x5 x6 x7]
  unfold out0_11
  generalize k0_pay17 x0 x1 x2 x3 x4 x5 x6 x7 = z
  frame_out
  rw [pay2_at]

theorem out12_at (hh : ∀ r e, ∃ y : ℝ, modulatedRow r x0 x1 x2 e = y) (hw : ∀ e j, ∃ y : ℝ, x3 (ix2 e j) = y) (hlo : ∀ e j, x4 (ix2 e j) = x3 (ix2 e j) - x3 (ix2 e j))
    (cs sn : Fin 256 → Fin 32 → EReal) (ht : Tables x6 x7 cs sn) (j : Fin 512) :
    out0_12 x0 x1 x2 x3 x4 x5 x6 x7 (ix4 0 0 0 j)
      = (∑ r, rot (fun k => proj (modulatedRow r x0 x1 x2) (fun e j => x3 (ix2 e j)) ⟨512 + k.val, by omega⟩) (cs r) (sn r) j) * Ideal.ofBits .f32 0x3B800000#32 := by
  simp only [← fun r => keys_at r x0 x1 x2 x3 x4 x5 x6 x7 (hh r) hw hlo cs sn ht j]
  rw [← pay3_at]
  unfold out0_12
  generalize k0_pay12 (k0_pay15 x0 x1 x2 x3 x4 x5 x6 x7) (k0_pay16 x0 x1 x2 x3 x4 x5 x6 x7) (View.ld x4 r0_4) (View.ld x6 r0_5) (View.ld x7 r0_5) = z
  frame_out

end

end Cert.InprojIdeal.Value

end
-- ==== Proof.InprojArray.lean ====
/-
  The arrays the call of the input projection leaves: every row is the layer's first half of that row.
-/
module

public import proofs.«01_k».proof.Proof.InprojRows
public import Idealize.ShloMosaic.Lib.Pipeline.Covers
public import Idealize.ShloMosaic.Lib.StableHlo.ReadAt

@[expose] public section

set_option maxRecDepth 16384

noncomputable section

namespace Cert.InprojIdeal.Value

open Cert.InprojIdeal Cert.InprojIdeal.Gen Cert.MlpRow Cert.InprojRow Idealize.ShloMosaic Idealize.ShloMosaic.TcCoe Idealize.SL.Sem

/-! ## What the host hands the call -/

section
variable (m : (ℓ : Loc nD τ sig) → Buf (Elt Ideal) ℓ) (c : Dev nD)

/-- The input projection's weights. -/
abbrev weights : FVec Ideal S1024x2048 .f32 := m ((c.tc : Thread nD τ).loc main_arg3)

/-- The weights of the queries and keys. -/
theorem high_at (e j : Fin 1024) : (V m c main_v23 : FVec Ideal S1024x1024 .bf16) (ix2 e j)
    = weights m c (ix2 e ⟨j.val, by omega⟩) := by
  unfold V
  after_reads_at

/-- What the rounding of these weights leaves. -/
theorem low_at (e j : Fin 1024) : (V m c main_v26 : FVec Ideal S1024x1024 .bf16) (ix2 e j)
    = weights m c (ix2 e ⟨j.val, by omega⟩)
      - weights m c (ix2 e ⟨j.val, by omega⟩) := by
  unfold V
  after_reads_at

/-- The weights of the values and of the other mixer. -/
theorem rest_at (e j : Fin 1024) : (V m c main_v28 : FVec Ideal S1024x1024 .bf16) (ix2 e j)
    = weights m c (ix2 e ⟨1024 + j.val, by omega⟩) := by
  unfold V
  after_reads_at

/-- The table of the cosines. -/
theorem cosines_at (t : Fin 8192) (l : Fin 128) : (V m c main_v16 : FVec Ideal S8192x128 .f32) (ix2 t l) = Ideal.cos (angle t ⟨l.val % 32, by omega⟩) := by
  unfold V angle
  after_reads_at
  rfl

/-- The table of the sines, negative in the first half of a head. -/
theorem sines_at (t : Fin 8192) (l : Fin 128) : (V m c main_v21 : FVec Ideal S8192x128 .f32) (ix2 t l)
    = if l.val % 64 < 32 then -Ideal.sin (angle t ⟨l.val % 32, by omega⟩) else Ideal.sin (angle t ⟨l.val % 32, by omega⟩) := by
  unfold V
  after_reads_at
  by_cases h : l.val % 64 < 32
  · have e : (⟨l.val % 32, by omega⟩ : Fin 32) = ⟨l.val % 64, h⟩ := Fin.ext (by simp only []; omega)
    rw [dif_pos h, if_pos h, e]
    unfold angle
    after_reads_at
    rfl
  · have e : (⟨l.val % 32, by omega⟩ : Fin 32) = ⟨l.val % 64 - 32, by omega⟩ := Fin.ext (by simp only []; omega)
    rw [dif_neg h, if_neg h, e]
    unfold angle
    after_reads_at
    rfl

end

/-! ## The arrays -/

section
variable (x : FVec Ideal S2x8192x1024 .f32) (mod : FVec Ideal S2x1x6144 .f32) (g : FVec Ideal S1x1024 .f32) (w : FVec Ideal S1024x2048 .f32)

/-- The row of a batch and position before its heads are turned. -/
def rowAt (b : Fin 2) (t : Fin 8192) : Fin 2048 → EReal :=
  projRow (fun e => x (ix3 b t e)) (fun e => g (ix2 0 e)) (fun e => mod (ix3 b 0 e)) (fun e j => w (ix2 e j))

/-- The queries' and the keys' heads turned, at a batch and position. -/
def queryRow (b : Fin 2) (t : Fin 8192) : Fin 512 → EReal := turnRow t (fun k => rowAt x mod g w b t ⟨k.val, by omega⟩)
def keyRow (b : Fin 2) (t : Fin 8192) : Fin 512 → EReal := turnRow t (fun k => rowAt x mod g w b t ⟨512 + k.val, by omega⟩)

/-- The queries, the keys and the values. -/
def queries : FVec Ideal S2x8192x512 .f32 := fun j => queryRow x mod g w (j 0) (j 1) (j 2)
def keys : FVec Ideal S2x8192x512 .f32 := fun j => keyRow x mod g w (j 0) (j 1) (j 2)
def values : FVec Ideal S2x8192x512 .bf16 := fun j => rowAt x mod g w (j 0) (j 1) ⟨1024 + (j 2).val, by have h : (j 2).val < 512 := (j 2).isLt; omega⟩

/-- The other mixer's inputs, the eight segments of the positions side by side. -/
def inputs : FVec Ideal S2x1024x4096 .bf16 := fun j =>
  rowAt x mod g w (j 0) ⟨(j 2).val / 512 * 1024 + (j 1).val, by have h : (j 2).val < 4096 := (j 2).isLt; have h' : (j 1).val < 1024 := (j 1).isLt; omega⟩
    ⟨1536 + (j 2).val % 512, by omega⟩

/-- The means of the keys over stretches of 256 positions. -/
def keyMeans : FVec Ideal S2x32x1x512 .f32 := fun j =>
  (∑ k : Fin 256, keyRow x mod g w (j 0) ⟨(j 1).val * 256 + k.val, by have h : (j 1).val < 32 := (j 1).isLt; omega⟩ (j 3)) * Ideal.ofBits .f32 0x3B800000#32

end

/-! ## The blocks' places -/

theorem index0 : ∀ t : Fin cfg0.N, (cfg0.win 0).index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, (cfg0.win 1).index t = ![(grid0.coords t 0).val, 0, 0] :=
  (by decide +kernel : ∀ t : Fin grid0.N, win0_1.index t = ![(grid0.coords t 0).val, 0, 0])
theorem index2 : ∀ t : Fin cfg0.N, (cfg0.win 2).index t = ![0, 0] := fun _ => rfl
theorem index3 : ∀ t : Fin cfg0.N, (cfg0.win 3).index t = ![0, 0] := fun _ => rfl
theorem index4 : ∀ t : Fin cfg0.N, (cfg0.win 4).index t = ![0, 0] := fun _ => rfl
theorem index5 : ∀ t : Fin cfg0.N, (cfg0.win 5).index t = ![0, 0] := fun _ => rfl
theorem index6 : ∀ t : Fin cfg0.N, (cfg0.win 6).index t = ![(grid0.coords t 1).val, 0] :=
  (by decide +kernel : ∀ t : Fin grid0.N, win0_6.index t = ![(grid0.coords t 1).val, 0])
theorem index7 : ∀ t : Fin cfg0.N, (cfg0.win 7).index t = ![(grid0.coords t 1).val, 0] :=
  (by decide +kernel : ∀ t : Fin grid0.N, win0_7.index t = ![(grid0.coords t 1).val, 0])
theorem index8 : ∀ t : Fin cfg0.N, (cfg0.win 8).index t = ![(grid0.coords t 0).val, (grid0.coords t 1).val, 0] :=
  (by decide +kernel : ∀ t : Fin grid0.N, win0_8.index t = ![(grid0.coords t 0).val, (grid0.coords t 1).val, 0])
theorem index9 : ∀ t : Fin cfg0.N, (cfg0.win 9).index t = ![(grid0.coords t 0).val, (grid0.coords t 1).val, 0] :=
  (by decide +kernel : ∀ t : Fin grid0.N, win0_9.index t = ![(grid0.coords t 0).val, (grid0.coords t 1).val, 0])
theorem index10 : ∀ t : Fin cfg0.N, (cfg0.win 10).index t = ![(grid0.coords t 0).val, (grid0.coords t 1).val, 0] :=
  (by decide +kernel : ∀ t : Fin grid0.N, win0_10.index t = ![(grid0.coords t 0).val, (grid0.coords t 1).val, 0])
theorem index11 : ∀ t : Fin cfg0.N, (cfg0.win 11).index t = ![(grid0.coords t 0).val, (grid0.coords t 1).val % 4, (grid0.coords t 1).val / 4] :=
  (by decide +kernel : ∀ t : Fin grid0.N, win0_11.index t = ![(grid0.coords t 0).val, (grid0.coords t 1).val % 4, (grid0.coords t 1).val / 4])
theorem index12 : ∀ t : Fin cfg0.N, (cfg0.win 12).index t = ![(grid0.coords t 0).val, (grid0.coords t 1).val, 0, 0] :=
  (by decide +kernel : ∀ t : Fin grid0.N, win0_12.index t = ![(grid0.coords t 0).val, (grid0.coords t 1).val, 0, 0])

/-- The grid point of a batch and a block of rows. -/
def pointOf (b : Fin 2) (p : Fin 32) : grid0.Coords := fun a => match a with | 0 => b | 1 => p

theorem map8 : ∀ (b : Fin 2) (p : Fin 32), cc0_transform_8 (pointOf b p) = ![b.val, p.val, 0] := by decide +kernel
theorem map9 : ∀ (b : Fin 2) (p : Fin 32), cc0_transform_9 (pointOf b p) = ![b.val, p.val, 0] := by decide +kernel
theorem map10 : ∀ (b : Fin 2) (p : Fin 32), cc0_transform_10 (pointOf b p) = ![b.val, p.val, 0] := by decide +kernel
theorem map11 : ∀ (b : Fin 2) (p : Fin 4) (q : Fin 8), cc0_transform_11 (pointOf b ⟨4 * q.val + p.val, by omega⟩) = ![b.val, p.val, q.val] := by decide +kernel
theorem map12 : ∀ (b : Fin 2) (p : Fin 32), cc0_transform_12 (pointOf b p) = ![b.val, p.val, 0, 0] := by decide +kernel

section
variable (m : (ℓ : Loc nD τ sig) → Buf (Elt Ideal) ℓ) (c : Dev nD) (t : Fin cfg0.N)

/-- The rows, the modulations and the gains. -/
abbrev given : FVec Ideal S2x8192x1024 .f32 := m ((c.tc : Thread nD τ).loc main_arg0)
abbrev modulations : FVec Ideal S2x1x6144 .f32 := m ((c.tc : Thread nD τ).loc main_arg1)
abbrev gains : FVec Ideal S1x1024 .f32 := m ((c.tc : Thread nD τ).loc main_arg2)

/-- What must be real for the split product to be the product. -/
structure Finite : Prop where
  mod : ∀ b (e : Fin 2048), ∃ y : ℝ, modulations m c (ix3 b 0 ⟨e.val, by omega⟩) = y
  gain : ∀ e, ∃ y : ℝ, gains m c (ix2 0 e) = y
  weight : ∀ e (j : Fin 1024), ∃ y : ℝ, weights m c (ix2 e ⟨j.val, by omega⟩) = y

/-- The batch of a grid point. -/
def batchOf : Fin 2 := ⟨(grid0.coords t 0).val, (grid0.coords t 0).isLt⟩
/-- The block of rows of a grid point. -/
def rowsOf : Fin 32 := ⟨(grid0.coords t 1).val, (grid0.coords t 1).isLt⟩
/-- The row of the array a block's row is. -/
def rowOf (r : Fin 256) : Fin 8192 := ⟨(rowsOf t).val * 256 + r.val, by omega⟩

theorem x_read (r : Fin 256) (e : Fin 1024) : iblk m c 0 t (ix3 0 r e) = given m c (ix3 (batchOf t) (rowOf t r) e) := by
  blk_ext [iblk, V, index0 t, batchOf, rowOf, rowsOf]
theorem mod_read (e : Fin 6144) : iblk m c 1 t (ix3 0 0 e) = modulations m c (ix3 (batchOf t) 0 e) := by
  blk_ext [iblk, V, index1 t, batchOf]
theorem gain_read (e : Fin 1024) : iblk m c 2 t (ix2 0 e) = gains m c (ix2 0 e) := by
  blk_ext [iblk, V, index2 t]
theorem high_read (e j : Fin 1024) : iblk m c 3 t (ix2 e j) = weights m c (ix2 e ⟨j.val, by omega⟩) := by
  rw [← high_at]
  blk_ext [iblk, index3 t]
theorem low_read (e j : Fin 1024) : iblk m c 4 t (ix2 e j) = weights m c (ix2 e ⟨j.val, by omega⟩) - weights m c (ix2 e ⟨j.val, by omega⟩) := by
  rw [← low_at]
  blk_ext [iblk, index4 t]
theorem rest_read (e j : Fin 1024) : iblk m c 5 t (ix2 e j) = weights m c (ix2 e ⟨1024 + j.val, by omega⟩) := by
  rw [← rest_at]
  blk_ext [iblk, index5 t]
theorem cos_read (r : Fin 256) (l : Fin 128) : iblk m c 6 t (ix2 r l) = (V m c main_v16 : FVec Ideal S8192x128 .f32) (ix2 (rowOf t r) l) := by
  blk_ext [iblk, index6 t, rowOf, rowsOf]
theorem sin_read (r : Fin 256) (l : Fin 128) : iblk m c 7 t (ix2 r l) = (V m c main_v21 : FVec Ideal S8192x128 .f32) (ix2 (rowOf t r) l) := by
  blk_ext [iblk, index7 t, rowOf, rowsOf]

/-- The tables of a block are those of its rows' positions. -/
theorem tables : Tables (iblk m c 6 t) (iblk m c 7 t) (fun r i => Ideal.cos (angle (rowOf t r) i)) (fun r i => Ideal.sin (angle (rowOf t r) i)) where
  cos r l := (cos_read m c t r l).trans (cosines_at m c _ l)
  sin r l := (sin_read m c t r l).trans (sines_at m c _ l)

/-- A block's modulated row in the arrays. -/
theorem modulated_read (r : Fin 256) : modulatedRow r (iblk m c 0 t) (iblk m c 1 t) (iblk m c 2 t)
    = modRow (fun e => given m c (ix3 (batchOf t) (rowOf t r) e)) (fun e => gains m c (ix2 0 e))
        (fun e => modulations m c (ix3 (batchOf t) 0 ⟨1024 + e.val, by omega⟩)) (fun e => modulations m c (ix3 (batchOf t) 0 ⟨e.val, by omega⟩)) := by
  unfold modulatedRow
  simp only [x_read, mod_read, gain_read]

theorem modulated_real (hf : Finite m c) (r : Fin 256) (e : Fin 1024) : ∃ y : ℝ, modulatedRow r (iblk m c 0 t) (iblk m c 1 t) (iblk m c 2 t) e = y := by
  rw [modulated_read]
  exact modRow_real _ _ _ _ hf.gain (fun d => hf.mod _ ⟨1024 + d.val, by omega⟩) (fun d => hf.mod _ ⟨d.val, by omega⟩) e

/-- The weights of the queries and keys as a block holds them, and what their rounding left. -/
abbrev highBlock : Vec Ideal S1024x1024 .bf16 := iblk m c 3 t
abbrev lowBlock : Vec Ideal S1024x1024 .bf16 := iblk m c 4 t

theorem weight_real (hf : Finite m c) (e j : Fin 1024) : ∃ y : ℝ, highBlock m c t (ix2 e j) = y := by
  obtain ⟨y, hy⟩ := hf.weight e j
  exact ⟨y, (high_read m c t e j).trans hy⟩

theorem low_eq (e j : Fin 1024) : lowBlock m c t (ix2 e j) = highBlock m c t (ix2 e j) - highBlock m c t (ix2 e j) := by
  refine (low_read m c t e j).trans ?_
  rw [show highBlock m c t (ix2 e j) = _ from high_read m c t e j]

/-- The two products of a block's row are the row's two halves. -/
theorem high_row (r : Fin 256) (j : Fin 1024) : proj (modulatedRow r (iblk m c 0 t) (iblk m c 1 t) (iblk m c 2 t)) (fun e j => iblk m c 3 t (ix2 e j)) j
    = rowAt (given m c) (modulations m c) (gains m c) (weights m c) (batchOf t) (rowOf t r) ⟨j.val, by omega⟩ := by
  unfold rowAt projRow proj
  rw [modulated_read]
  simp only [high_read]

theorem rest_row (r : Fin 256) (j : Fin 1024) : proj (modulatedRow r (iblk m c 0 t) (iblk m c 1 t) (iblk m c 2 t)) (fun e j => iblk m c 5 t (ix2 e j)) j
    = rowAt (given m c) (modulations m c) (gains m c) (weights m c) (batchOf t) (rowOf t r) ⟨1024 + j.val, by omega⟩ := by
  unfold rowAt projRow proj
  rw [modulated_read]
  simp only [rest_read]

theorem place8 (r : Fin 256) (j : Fin 512) : ((cfg0.win 8).blk t).view.emb (ix3 0 r j) = ix3 (batchOf t) (rowOf t r) j := by
  blk_ext [index8 t, batchOf, rowOf, rowsOf]
theorem place9 (r : Fin 256) (j : Fin 512) : ((cfg0.win 9).blk t).view.emb (ix3 0 r j) = ix3 (batchOf t) (rowOf t r) j := by
  blk_ext [index9 t, batchOf, rowOf, rowsOf]
theorem place10 (r : Fin 256) (j : Fin 512) : ((cfg0.win 10).blk t).view.emb (ix3 0 r j) = ix3 (batchOf t) (rowOf t r) j := by
  blk_ext [index10 t, batchOf, rowOf, rowsOf]
theorem place11 (r : Fin 256) (j : Fin 512) : ((cfg0.win 11).blk t).view.emb (ix3 0 r j)
    = ix3 (batchOf t) ⟨(rowsOf t).val % 4 * 256 + r.val, by omega⟩ ⟨(rowsOf t).val / 4 * 512 + j.val, by omega⟩ := by
  blk_ext [index11 t, batchOf, rowsOf]
theorem place12 (j : Fin 512) : ((cfg0.win 12).blk t).view.emb (ix4 0 0 0 j) = ix4 (batchOf t) (rowsOf t) 0 j := by
  blk_ext [index12 t, batchOf, rowsOf]

/-- The queries the call leaves. -/
theorem array8 (hf : Finite m c) : (dats m 0 c).arrAt 8 cfg0.N = queries (given m c) (modulations m c) (gains m c) (weights m c) := by
  refine (dats m 0 c).arrAt_eq_of_covers 8 _ ((cfg0.win 8).covers_of_indexMap_surj rfl (by decide) fun β =>
    ⟨pointOf (β 0) (β 1), fun a => (congrFun (map8 (β 0) (β 1)) a).trans (by fin_cases a <;> first | rfl | exact congrArg Fin.val (Subsingleton.elim (0 : Fin 1) (β 2)))⟩) fun t hf' y => ?_
  blk_simp
  rw [after0_8]
  idx_vars y
  rw [Subsingleton.elim y0 0, out8_at y1 _ _ _ _ _ _ _ _ (modulated_real m c t hf y1) (weight_real m c t hf) (low_eq m c t) _ _ (tables m c t)]
  refine Eq.trans ?_ (congrArg _ (place8 t y1 y2)).symm
  simp only [high_row]
  rfl

/-- The keys the call leaves. -/
theorem array9 (hf : Finite m c) : (dats m 0 c).arrAt 9 cfg0.N = keys (given m c) (modulations m c) (gains m c) (weights m c) := by
  refine (dats m 0 c).arrAt_eq_of_covers 9 _ ((cfg0.win 9).covers_of_indexMap_surj rfl (by decide) fun β =>
    ⟨pointOf (β 0) (β 1), fun a => (congrFun (map9 (β 0) (β 1)) a).trans (by fin_cases a <;> first | rfl | exact congrArg Fin.val (Subsingleton.elim (0 : Fin 1) (β 2)))⟩) fun t hf' y => ?_
  blk_simp
  rw [after0_9]
  idx_vars y
  rw [Subsingleton.elim y0 0, out9_at y1 _ _ _ _ _ _ _ _ (modulated_real m c t hf y1) (weight_real m c t hf) (low_eq m c t) _ _ (tables m c t)]
  refine Eq.trans ?_ (congrArg _ (place9 t y1 y2)).symm
  simp only [high_row]
  rfl

/-- The values the call leaves. -/
theorem array10 : (dats m 0 c).arrAt 10 cfg0.N = values (given m c) (modulations m c) (gains m c) (weights m c) := by
  refine (dats m 0 c).arrAt_eq_of_covers 10 _ ((cfg0.win 10).covers_of_indexMap_surj rfl (by decide) fun β =>
    ⟨pointOf (β 0) (β 1), fun a => (congrFun (map10 (β 0) (β 1)) a).trans (by fin_cases a <;> first | rfl | exact congrArg Fin.val (Subsingleton.elim (0 : Fin 1) (β 2)))⟩) fun t hf' y => ?_
  blk_simp
  rw [after0_10]
  idx_vars y
  rw [Subsingleton.elim y0 0, out10_at, rest_row]
  refine Eq.trans ?_ (congrArg _ (place10 t y1 y2)).symm
  rfl

/-- The other mixer's inputs the call leaves. -/
theorem array11 : (dats m 0 c).arrAt 11 cfg0.N = inputs (given m c) (modulations m c) (gains m c) (weights m c) := by
  refine (dats m 0 c).arrAt_eq_of_covers 11 _ ((cfg0.win 11).covers_of_indexMap_surj rfl (by decide) fun β =>
    ⟨pointOf (β 0) ⟨4 * (show Fin 8 from β 2).val + (show Fin 4 from β 1).val, by omega⟩, fun a => (congrFun (map11 (β 0) (β 1) (β 2)) a).trans (by fin_cases a <;> rfl)⟩) fun t hf' y => ?_
  blk_simp
  rw [after0_11]
  idx_vars y
  rw [Subsingleton.elim y0 0, out11_at, rest_row]
  refine Eq.trans ?_ (congrArg _ (place11 t y1 y2)).symm
  refine congr (congrArg (rowAt (given m c) (modulations m c) (gains m c) (weights m c) (batchOf t)) (Fin.ext ?_)) (Fin.ext ?_)
  · show (rowsOf t).val * 256 + y1.val = ((rowsOf t).val / 4 * 512 + y2.val) / 512 * 1024 + ((rowsOf t).val % 4 * 256 + y1.val)
    omega
  · show 1024 + (512 + y2.val) = 1536 + ((rowsOf t).val / 4 * 512 + y2.val) % 512
    omega

/-- The keys' means the call leaves. -/
theorem array12 (hf : Finite m c) : (dats m 0 c).arrAt 12 cfg0.N = keyMeans (given m c) (modulations m c) (gains m c) (weights m c) := by
  refine (dats m 0 c).arrAt_eq_of_covers 12 _ ((cfg0.win 12).covers_of_indexMap_surj rfl (by decide) fun β =>
    ⟨pointOf (β 0) (β 1), fun a => (congrFun (map12 (β 0) (β 1)) a).trans (by
      fin_cases a <;> first | rfl | exact congrArg Fin.val (Subsingleton.elim (0 : Fin 1) (β 2)) | exact congrArg Fin.val (Subsingleton.elim (0 : Fin 1) (β 3)))⟩) fun t hf' y => ?_
  blk_simp
  rw [after0_12]
  idx_vars y
  rw [Subsingleton.elim y0 0, Subsingleton.elim y1 0, Subsingleton.elim y2 0,
    out12_at _ _ _ _ _ _ _ _ (modulated_real m c t hf) (weight_real m c t hf) (low_eq m c t) _ _ (tables m c t)]
  refine Eq.trans ?_ (congrArg _ (place12 t y3)).symm
  simp only [high_row]
  rfl

end

end Cert.InprojIdeal.Value

end
-- ==== Proof.InprojReference.lean ====
/-
  The plain first half of the layer at an index.
-/
module

public import proofs.«01_k».proof.Proof.Gen.InprojRefIdeal.Run
public import proofs.«01_k».proof.Proof.InprojRow
public import Idealize.ShloMosaic.Lib.Pointwise
public import Idealize.ShloMosaic.Lib.Tactic.CleanTypes

@[expose] public section

set_option maxRecDepth 16384

noncomputable section

namespace Cert.InprojRefIdeal.Value

open Cert.InprojRefIdeal Cert.InprojRefIdeal.Gen Cert.MlpRow Cert.InprojRow Idealize.ShloMosaic Idealize.ShloMosaic.TcCoe Idealize.SL.Sem

/-- The rows normalised. -/
def norm (a0 : FVec Ideal S2x8192x1024 .f32) (a2 : FVec Ideal S1x1024 .f32) : FVec Ideal S2x8192x1024 .f32 :=
  mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 a2))

/-- Normalised rows scaled and shifted. -/
def modulated (z : FVec Ideal S2x8192x1024 .f32) (a1 : FVec Ideal S2x1x6144 .f32) : FVec Ideal S2x8192x1024 .f32 :=
  addf (mulf z (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] a1 slices_S2x1x6144_S2x1x1024_0_0_1024)))) (broadcastInDim S2x8192x1024 ![0, 1, 2] bcast_S2x1x1024_S2x8192x1024_0_1_2 (extractStridedSlice S2x1x1024 ![0, 0, 0] a1 slices_S2x1x6144_S2x1x1024_0_0_0))

/-- The rows through the input projection. -/
def projected (h : FVec Ideal S2x8192x1024 .f32) (w : FVec Ideal S1024x2048 .f32) : FVec Ideal S2x8192x2048 .f32 :=
  Host.dotGeneral (φ₁ := .f32) (φ₂ := .f32) dot_S2x8192x1024_S1024x2048_S2x8192x2048_2_0_01_1_n_n none h w

/-- The four parts of a projected row. -/
def part0 (z : FVec Ideal S2x8192x2048 .f32) : FVec Ideal S2x8192x512 .f32 := extractStridedSlice S2x8192x512 ![0, 0, 0] z slices_S2x8192x2048_S2x8192x512_0_0_0
def part1 (z : FVec Ideal S2x8192x2048 .f32) : FVec Ideal S2x8192x512 .f32 := extractStridedSlice S2x8192x512 ![0, 0, 512] z slices_S2x8192x2048_S2x8192x512_0_0_512
def part2 (z : FVec Ideal S2x8192x2048 .f32) : FVec Ideal S2x8192x512 .f32 := extractStridedSlice S2x8192x512 ![0, 0, 1024] z slices_S2x8192x2048_S2x8192x512_0_0_1024
def part3 (z : FVec Ideal S2x8192x2048 .f32) : FVec Ideal S2x8192x512 .f32 := extractStridedSlice S2x8192x512 ![0, 0, 1536] z slices_S2x8192x2048_S2x8192x512_0_0_1536

/-- A part as eight heads. -/
def heads (z : FVec Ideal S2x8192x512 .f32) : FVec Ideal S2x8x8192x64 .f32 :=
  transpose S2x8x8192x64 [0, 2, 1, 3] (shapeCast _ z shapeCasts_S2x8192x512_S2x8192x8x64) transposes_S2x8192x8x64_S2x8x8192x64_0_2_1_3

/-- The angles of the positions. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table for every batch and head. -/
def everyHead (a : FVec Ideal S8192x32 .f32) : FVec Ideal S2x8x8192x32 .f32 :=
  broadcastInDim S2x8x8192x32 ![0, 1, 2, 3] bcast_S1x1x8192x32_S2x8x8192x32_0_1_2_3 (broadcastInDim S1x1x8192x32 ![2, 3] bcast_S8192x32_S1x1x8192x32_2_3 a)

/-- The heads turned, given the tables of the cosines and sines. -/
def turned (x : FVec Ideal S2x8x8192x64 .f32) (cs sn : FVec Ideal S2x8x8192x32 .f32) : FVec Ideal S2x8x8192x64 .f32 :=
  concatenate S2x8x8192x64 3 [⟨S2x8x8192x32, (subf (mulf (extractStridedSlice S2x8x8192x32 ![0, 0, 0, 0] x slices_S2x8x8192x64_S2x8x8192x32_0_0_0_0) cs) (mulf (extractStridedSlice S2x8x8192x32 ![0, 0, 0, 32] x slices_S2x8x8192x64_S2x8x8192x32_0_0_0_32) sn))⟩, ⟨S2x8x8192x32, (addf (mulf (extractStridedSlice S2x8x8192x32 ![0, 0, 0, 0] x slices_S2x8x8192x64_S2x8x8192x32_0_0_0_0) sn) (mulf (extractStridedSlice S2x8x8192x32 ![0, 0, 0, 32] x slices_S2x8x8192x64_S2x8x8192x32_0_0_0_32) cs))⟩] concatenates_S2x8x8192x32_S2x8x8192x32_S2x8x8192x64_d3

/-- Eight heads as a part. -/
def flat (y : FVec Ideal S2x8x8192x64 .f32) : FVec Ideal S2x8192x512 .f32 :=
  shapeCast _ (transpose S2x8192x8x64 [0, 2, 1, 3] y transposes_S2x8x8192x64_S2x8192x8x64_0_2_1_3) shapeCasts_S2x8192x8x64_S2x8192x512

/-- The means over stretches of 256 positions. -/
def means (y : FVec Ideal S2x8x8192x64 .f32) : FVec Ideal S2x32x1x512 .f32 :=
  shapeCast _ (transpose S2x32x8x64 [0, 2, 1, 3] (Host.divf (Host.reduceAdd (shapeCast _ y shapeCasts_S2x8x8192x64_S2x8x32x256x64) (constant S_ .f32 0x00000000#32) reducesTo_S2x8x32x256x64_S2x8x32x64_d3 h_S_) (broadcastInDim S2x8x32x64 ![] bcast_S_S2x8x32x64 (constant S_ .f32 0x43800000#32))) transposes_S2x8x32x64_S2x32x8x64_0_2_1_3) shapeCasts_S2x32x8x64_S2x32x1x512

/-- The eight segments of the positions side by side. -/
def segments (z : FVec Ideal S2x8192x512 .f32) : FVec Ideal S2x1024x4096 .f32 :=
  shapeCast _ (transpose S2x1024x8x512 [0, 2, 1, 3] (shapeCast _ z shapeCasts_S2x8192x512_S2x8x1024x512) transposes_S2x8x1024x512_S2x1024x8x512_0_2_1_3) shapeCasts_S2x1024x8x512_S2x1024x4096

/-- The projected rows from the arguments. -/
def rows (a0 : FVec Ideal S2x8192x1024 .f32) (a1 : FVec Ideal S2x1x6144 .f32) (a2 : FVec Ideal S1x1024 .f32) (a3 : FVec Ideal S1024x2048 .f32) : FVec Ideal S2x8192x2048 .f32 :=
  projected (modulated (norm a0 a2) a1) a3

/-- A part with its heads turned by the angles. -/
def rotated (z : FVec Ideal S2x8192x512 .f32) : FVec Ideal S2x8x8192x64 .f32 :=
  turned (heads z) (everyHead (Host.cos angles)) (everyHead (Host.sin angles))

section
variable (m : (ℓ : Loc nD τ sig) → Buf (Elt Ideal) ℓ) (c : Dev nD)

/-- The projected rows of the arguments in memory. -/
def rowsOf : FVec Ideal S2x8192x2048 .f32 :=
  rows (m ((c.tc : Thread nD τ).loc main_arg0)) (m ((c.tc : Thread nD τ).loc main_arg1)) (m ((c.tc : Thread nD τ).loc main_arg2)) (m ((c.tc : Thread nD τ).loc main_arg3))

theorem res_q : res_main_v104 m c = flat (rotated (part0 (rowsOf m c))) := rfl
theorem res_k : res_main_v106 m c = flat (rotated (part1 (rowsOf m c))) := rfl
theorem res_kmean : res_main_v110 m c = means (rotated (part1 (rowsOf m c))) := rfl

end

section
variable (b : Fin 2) (r : Fin 8192)

theorem norm_at (x : FVec Ideal S2x8192x1024 .f32) (g : FVec Ideal S1x1024 .f32) (d : Fin 1024) :
    norm x g (ix3 b r d) = normRow 0x44800000#32 (fun e => x (ix3 b r e)) (fun e => g (ix2 0 e)) d := by
  unfold norm normRow
  pointwise

theorem modulated_at (x : FVec Ideal S2x8192x1024 .f32) (mod : FVec Ideal S2x1x6144 .f32) (g : FVec Ideal S1x1024 .f32) (d : Fin 1024) :
    modulated (norm x g) mod (ix3 b r d)
      = modRow (fun e => x (ix3 b r e)) (fun e => g (ix2 0 e)) (fun e => mod (ix3 b 0 ⟨1024 + e.val, by omega⟩)) (fun e => mod (ix3 b 0 ⟨e.val, by omega⟩)) d := by
  unfold modRow
  rw [← norm_at]
  generalize norm x g = z
  unfold modulated
  pointwise

theorem projected_at (h : FVec Ideal S2x8192x1024 .f32) (w : FVec Ideal S1024x2048 .f32) (j : Fin 2048) :
    projected h w (ix3 b r j) = proj (fun e => h (ix3 b r e)) (fun e j => w (ix2 e j)) j := by
  unfold projected proj
  pointwise

theorem angles_at (i : Fin 32) : angles (ix2 r i) = angle r i := by
  unfold angles angle
  pointwise
  rfl

theorem everyHead_at (a : FVec Ideal S8192x32 .f32) (h : Fin 8) (i : Fin 32) : everyHead a (ix4 b h r i) = a (ix2 r i) := by
  unfold everyHead
  pointwise

theorem heads_at (z : FVec Ideal S2x8192x512 .f32) (h : Fin 8) (i : Fin 64) : heads z (ix4 b h r i) = z (ix3 b r ⟨h.val * 64 + i.val, by omega⟩) := by
  unfold heads
  pointwise

theorem flat_at (y : FVec Ideal S2x8x8192x64 .f32) (j : Fin 512) : flat y (ix3 b r j) = y (ix4 b ⟨j.val / 64, by omega⟩ r ⟨j.val % 64, by omega⟩) := by
  unfold flat
  pointwise

theorem turned_at (x : FVec Ideal S2x8x8192x64 .f32) (cs sn : FVec Ideal S2x8x8192x32 .f32) (h : Fin 8) (i : Fin 64) :
    turned x cs sn (ix4 b h r i) = if hi : i.val < 32 then x (ix4 b h r i) * cs (ix4 b h r ⟨i.val, hi⟩) - x (ix4 b h r ⟨32 + i.val, by omega⟩) * sn (ix4 b h r ⟨i.val, hi⟩)
      else x (ix4 b h r ⟨i.val - 32, by omega⟩) * sn (ix4 b h r ⟨i.val - 32, by omega⟩) + x (ix4 b h r ⟨32 + (i.val - 32), by omega⟩) * cs (ix4 b h r ⟨i.val - 32, by omega⟩) := by
  unfold turned
  pointwise

theorem means_at (y : FVec Ideal S2x8x8192x64 .f32) (n : Fin 32) (j : Fin 512) :
    means y (ix4 b n 0 j) = Ideal.div (∑ k : Fin 256, y (ix4 b ⟨j.val / 64, by omega⟩ ⟨n.val * 256 + k.val, by omega⟩ ⟨j.val % 64, by omega⟩)) (Ideal.ofBits .f32 0x43800000#32) := by
  unfold means
  pointwise

theorem segments_at (z : FVec Ideal S2x8192x512 .f32) (p : Fin 1024) (l : Fin 4096) :
    segments z (ix3 b p l) = z (ix3 b ⟨l.val / 512 * 1024 + p.val, by omega⟩ ⟨l.val % 512, by omega⟩) := by
  unfold segments
  pointwise

theorem rotated_at (z : FVec Ideal S2x8192x512 .f32) (j : Fin 512) :
    rotated z (ix4 b ⟨j.val / 64, by omega⟩ r ⟨j.val % 64, by omega⟩) = turnRow r (fun k => z (ix3 b r k)) j := by
  have ec : ∀ i, Host.cos angles (ix2 r i) = Ideal.cos (angle r i) := fun i => congrArg Ideal.cos (angles_at r i)
  have es : ∀ i, Host.sin angles (ix2 r i) = Ideal.sin (angle r i) := fun i => congrArg Ideal.sin (angles_at r i)
  unfold rotated turnRow rot
  rw [turned_at]
  simp only [heads_at, everyHead_at, ec, es]
  have e0 : (⟨j.val / 64 * 64 + j.val % 64, by omega⟩ : Fin 512) = j := Fin.ext (by simp only []; omega)
  by_cases h : j.val % 64 < 32
  · rw [dif_pos h, dif_pos h]
    have e1 : (⟨j.val / 64 * 64 + (32 + j.val % 64), by omega⟩ : Fin 512) = ⟨j.val + 32, by omega⟩ := Fin.ext (by simp only []; omega)
    have e2 : (⟨j.val % 64, h⟩ : Fin 32) = ⟨j.val % 32, by omega⟩ := Fin.ext (by simp only []; omega)
    rw [e0, e1, e2]
  · rw [dif_neg h, dif_neg h]
    have e1 : (⟨j.val / 64 * 64 + (j.val % 64 - 32), by omega⟩ : Fin 512) = ⟨j.val - 32, by omega⟩ := Fin.ext (by simp only []; omega)
    have e2 : (⟨j.val % 64 - 32, by omega⟩ : Fin 32) = ⟨j.val % 32, by omega⟩ := Fin.ext (by simp only []; omega)
    have e3 : (⟨j.val / 64 * 64 + (32 + (j.val % 64 - 32)), by omega⟩ : Fin 512) = j := Fin.ext (by simp only []; omega)
    rw [e1, e2, e3]

theorem rows_at (x : FVec Ideal S2x8192x1024 .f32) (mod : FVec Ideal S2x1x6144 .f32) (g : FVec Ideal S1x1024 .f32) (w : FVec Ideal S1024x2048 .f32) (j : Fin 2048) :
    rows x mod g w (ix3 b r j) = projRow (fun e => x (ix3 b r e)) (fun e => g (ix2 0 e)) (fun e => mod (ix3 b 0 e)) (fun e j => w (ix2 e j)) j := by
  unfold rows projRow
  rw [projected_at]
  simp only [modulated_at]

theorem part0_at (z : FVec Ideal S2x8192x2048 .f32) (j : Fin 512) : part0 z (ix3 b r j) = z (ix3 b r ⟨j.val, by omega⟩) := by
  unfold part0
  pointwise
theorem part1_at (z : FVec Ideal S2x8192x2048 .f32) (j : Fin 512) : part1 z (ix3 b r j) = z (ix3 b r ⟨512 + j.val, by omega⟩) := by
  unfold part1
  pointwise
theorem part2_at (z : FVec Ideal S2x8192x2048 .f32) (j : Fin 512) : part2 z (ix3 b r j) = z (ix3 b r ⟨1024 + j.val, by omega⟩) := by
  unfold part2
  pointwise
theorem part3_at (z : FVec Ideal S2x8192x2048 .f32) (j : Fin 512) : part3 z (ix3 b r j) = z (ix3 b r ⟨1536 + j.val, by omega⟩) := by
  unfold part3
  pointwise

end

end Cert.InprojRefIdeal.Value

end
-- ==== Proof.InprojEqual.lean ====
/-
  The call of the input projection and the plain first half of the layer agree.
-/
module

public import proofs.«01_k».proof.Proof.InprojArray
public import proofs.«01_k».proof.Proof.InprojReference
public import proofs.«01_k».proof.Proof.AttnEqual
public import proofs.«01_k».proof.Defs

@[expose] public section

set_option maxRecDepth 16384

noncomputable section

namespace Cert.InprojEqual

open Idealize.ShloMosaic Idealize.ShloMosaic.TcCoe Idealize.SL.Sem

instance facts : Pre_finite3.Facts where
  slices_S2x1x6144_S2x1x2048_0_0_0 := by decide
  bcast_S_S2x1x2048 := by decide
  bcast_S_S1x1024 := by decide
  slices_S1024x2048_S1024x1024_0_0 := by decide
  bcast_S_S1024x1024 := by decide

section
open InprojRefIdeal InprojRefIdeal.Gen InprojRefIdeal.Value
variable (x : FVec Ideal S2x8192x1024 .f32) (mod : FVec Ideal S2x1x6144 .f32) (g : FVec Ideal S1x1024 .f32) (w : FVec Ideal S1024x2048 .f32)

/-! The reference's five results are the layer's first half of every row. -/

theorem queries_eq : flat (rotated (part0 (rows x mod g w))) = InprojIdeal.Value.queries x mod g w := by
  funext j
  idx_vars j
  rw [flat_at, rotated_at]
  simp only [part0_at, rows_at]
  rfl

theorem keys_eq : flat (rotated (part1 (rows x mod g w))) = InprojIdeal.Value.keys x mod g w := by
  funext j
  idx_vars j
  rw [flat_at, rotated_at]
  simp only [part1_at, rows_at]
  rfl

theorem values_eq : truncf .bf16 (part2 (rows x mod g w)) bitsLt_bf16_f32 = InprojIdeal.Value.values x mod g w := by
  funext j
  idx_vars j
  refine (show _ = part2 (rows x mod g w) _ from rfl).trans ?_
  rw [part2_at, rows_at]
  rfl

theorem inputs_eq : truncf .bf16 (segments (part3 (rows x mod g w))) bitsLt_bf16_f32 = InprojIdeal.Value.inputs x mod g w := by
  funext j
  idx_vars j
  refine (show _ = segments (part3 (rows x mod g w)) _ from rfl).trans ?_
  rw [segments_at, part3_at, rows_at]
  rfl

theorem means_eq : means (rotated (part1 (rows x mod g w))) = InprojIdeal.Value.keyMeans x mod g w := by
  funext j
  idx_vars j
  rw [Subsingleton.elim j2 0, means_at, InprojRow.mean_eq]
  simp only [rotated_at, part1_at, rows_at]
  rfl

end

/-- What the precondition says of the modulations, the gains and the weights of the queries and keys. -/
theorem finite_of_pre (m : (ℓ : Loc InprojIdeal.nD InprojIdeal.τ InprojIdeal.sig) → Buf (Elt Ideal) ℓ) (h : Pre_InprojIdeal_finite3 m) (c : Dev InprojIdeal.nD) :
    InprojIdeal.Value.Finite m c where
  mod b e := by
    have z := congrFun (h c).1 (ix3 b 0 e)
    pointwise [Pre_finite3.fn] at z
    exact AttnEqual.real_of_bit _ z
  gain e := by
    have z := congrFun (h c).2.1 (ix2 0 e)
    pointwise [Pre_finite3.fn] at z
    exact AttnEqual.real_of_bit _ z
  weight e j := by
    have z := congrFun (h c).2.2 (ix2 e j)
    pointwise [Pre_finite3.fn] at z
    exact AttnEqual.real_of_bit _ z

/-- The call computes what its reference computes. -/
theorem algebraic : Cert.algebraic_InprojIdeal_InprojRefIdeal_pre_finite3 := by
  intro m g m' g' hp ha
  have hf := finite_of_pre m hp
  refine ⟨fun c => (InprojIdeal.Gen.dats m 0 c).arrAt 8 InprojIdeal.cfg0.N, fun c => (InprojIdeal.Gen.dats m 0 c).arrAt 9 InprojIdeal.cfg0.N,
    fun c => (InprojIdeal.Gen.dats m 0 c).arrAt 10 InprojIdeal.cfg0.N, fun c => (InprojIdeal.Gen.dats m 0 c).arrAt 11 InprojIdeal.cfg0.N,
    fun c => (InprojIdeal.Gen.dats m 0 c).arrAt 12 InprojIdeal.cfg0.N, InprojIdeal.Value.run_blocks m g, ?_⟩
  have hr : ∀ c, InprojRefIdeal.Value.rowsOf m' c = InprojRefIdeal.Value.rows (InprojIdeal.Value.given m c) (InprojIdeal.Value.modulations m c)
      (InprojIdeal.Value.gains m c) (InprojIdeal.Value.weights m c) := fun c => by
    obtain ⟨h0, h1, h2, h3⟩ := ha c
    unfold InprojRefIdeal.Value.rowsOf
    rw [h0, h1, h2, h3]
  refine (θ_run InprojRefIdeal.defs _ _).mono (fun r h c => ?_) (InprojRefIdeal.Value.run (F := Ideal) m' g')
  obtain ⟨e0, e1, e2, e3, e4, ek⟩ := h c
  refine ⟨e0.trans ?_, e1.trans ?_, e2.trans ?_, e3.trans ?_, e4.trans ?_, ek⟩
  · refine Eq.trans ?_ (InprojIdeal.Value.array8 m c (hf c)).symm
    rw [InprojRefIdeal.Value.res_q, hr c, queries_eq]
  · refine Eq.trans ?_ (InprojIdeal.Value.array9 m c (hf c)).symm
    rw [InprojRefIdeal.Value.res_k, hr c, keys_eq]
  · refine Eq.trans ?_ (InprojIdeal.Value.array10 m c).symm
    refine (show _ = truncf .bf16 (InprojRefIdeal.Value.part2 (InprojRefIdeal.Value.rowsOf m' c)) (by decide) from rfl).trans ?_
    rw [hr c]
    exact values_eq _ _ _ _
  · refine Eq.trans ?_ (InprojIdeal.Value.array11 m c).symm
    refine (show _ = truncf .bf16 (InprojRefIdeal.Value.segments (InprojRefIdeal.Value.part3 (InprojRefIdeal.Value.rowsOf m' c))) (by decide) from rfl).trans ?_
    rw [hr c]
    exact inputs_eq _ _ _ _
  · refine Eq.trans ?_ (InprojIdeal.Value.array12 m c (hf c)).symm
    rw [InprojRefIdeal.Value.res_kmean, hr c, means_eq]

/-- The reference runs, leaves its arguments and ends with every counter at zero. -/
theorem frame_reference (m : (ℓ : Loc InprojRefIdeal.nD InprojRefIdeal.τ InprojRefIdeal.sig) → Buf (Elt Ideal) ℓ) (ρ : Dev InprojRefIdeal.nD → PrngReg) :
    θ_run (InprojRefIdeal.defs (F := Ideal)) (onTc (τ := InprojRefIdeal.τ) (InprojRefIdeal.main (F := Ideal))) ⟨m, fun _ => 0, ρ⟩ (fun r => (∀ c : Dev InprojRefIdeal.nD,
      r.2.mem ((c.tc : Thread InprojRefIdeal.nD InprojRefIdeal.τ).loc InprojRefIdeal.main_arg0) = m ((c.tc : Thread InprojRefIdeal.nD InprojRefIdeal.τ).loc InprojRefIdeal.main_arg0)
      ∧ r.2.mem ((c.tc : Thread InprojRefIdeal.nD InprojRefIdeal.τ).loc InprojRefIdeal.main_arg1) = m ((c.tc : Thread InprojRefIdeal.nD InprojRefIdeal.τ).loc InprojRefIdeal.main_arg1)
      ∧ r.2.mem ((c.tc : Thread InprojRefIdeal.nD InprojRefIdeal.τ).loc InprojRefIdeal.main_arg2) = m ((c.tc : Thread InprojRefIdeal.nD InprojRefIdeal.τ).loc InprojRefIdeal.main_arg2)
      ∧ r.2.mem ((c.tc : Thread InprojRefIdeal.nD InprojRefIdeal.τ).loc InprojRefIdeal.main_arg3) = m ((c.tc : Thread InprojRefIdeal.nD InprojRefIdeal.τ).loc InprojRefIdeal.main_arg3))
      ∧ r.2.sem = fun _ => 0) :=
  (θ_run InprojRefIdeal.defs _ _).mono (fun r h => ⟨fun c => (h c).2.2.2.2.2, sem_eq_zero_of_no_sems (by decide) r.2⟩)
    (InprojRefIdeal.Value.run (F := Ideal) m ρ)

end Cert.InprojEqual

end
-- ==== Proof.AdalnEqual.lean ====
/-
  The call of the modulations and the plain modulations agree.
-/
module

public import proofs.«01_k».proof.Proof.Gen.AdalnIdeal.Value
public import proofs.«01_k».proof.Proof.Gen.AdalnRefIdeal.Run
public import proofs.«01_k».proof.Proof.InprojRow
public import proofs.«01_k».proof.Proof.AttnEqual
public import proofs.«01_k».proof.Defs
public import Idealize.ShloMosaic.Lib.Pointwise
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.AdalnRow

open Idealize.ShloMosaic Cert.InprojRow

/-- A number times the logistic function of it. -/
def silu (x : EReal) : EReal := x * Ideal.div 1 (1 + Ideal.exp (-x))

/-- It is real where the number is. -/
theorem silu_real (x : EReal) (hx : ∃ y : ℝ, x = y) : ∃ y : ℝ, silu x = y := by
  obtain ⟨y, rfl⟩ := hx
  have hp : (1 : ℝ) + Real.exp (-y) ≠ 0 := by positivity
  have he : Ideal.exp (-(y : EReal)) = ((Real.exp (-y) : ℝ) : EReal) := rfl
  unfold silu
  rw [show (1 : EReal) = ((1 : ℝ) : EReal) from rfl, he, ← EReal.coe_add, Ideal.div_coe hp, ← EReal.coe_mul, ← EReal.coe_mul]
  exact ⟨_, rfl⟩

end Cert.AdalnRow

namespace Cert.AdalnIdeal.Value

open Cert.AdalnIdeal Cert.AdalnIdeal.Gen Cert.InprojRow Cert.AdalnRow Idealize.ShloMosaic Idealize.ShloMosaic.TcCoe Idealize.SL.Sem

/-- A block's result at a row and a column, as the split product. -/
theorem out_at (x : Vec Ideal S8x1024 .f32) (w : Vec Ideal S1024x1536 .f32) (b : Vec Ideal S1x1536 .f32) (r : Fin 8) (j : Fin 1536) :
    out0_3 x w b (ix2 r j) = splitProj (fun e => silu (x (ix2 r e))) (fun e j => w (ix2 e j)) j + b (ix2 0 j) := by
  unfold out0_3 splitProj silu
  frame_out
  pointwise [k0_pay1]
  rfl

theorem index0 : ∀ t : Fin cfg0.N, (cfg0.win 0).index t = ![0, 0] := fun _ => rfl
theorem index1 : ∀ t : Fin cfg0.N, (cfg0.win 1).index t = ![0, (grid0.coords t 0).val] :=
  (by decide +kernel : ∀ t : Fin grid0.N, win0_1.index t = ![0, (grid0.coords t 0).val])
theorem index2 : ∀ t : Fin cfg0.N, (cfg0.win 2).index t = ![0, (grid0.coords t 0).val] :=
  (by decide +kernel : ∀ t : Fin grid0.N, win0_2.index t = ![0, (grid0.coords t 0).val])
theorem index3 : ∀ t : Fin cfg0.N, (cfg0.win 3).index t = ![0, (grid0.coords t 0).val] :=
  (by decide +kernel : ∀ t : Fin grid0.N, win0_3.index t = ![0, (grid0.coords t 0).val])

/-- The grid point of a block of columns. -/
def pointOf (p : Fin 4) : grid0.Coords := fun a => match a with | 0 => p

theorem map3 : ∀ p : Fin 4, cc0_transform_3 (pointOf p) = ![0, p.val] := by decide +kernel

/-- The modulations of every row of the conditioning. -/
def modulations (x : FVec Ideal S8x1024 .f32) (w : FVec Ideal S1024x6144 .f32) (b : FVec Ideal S6144 .f32) : FVec Ideal S8x6144 .f32 :=
  fun j => proj (fun e => silu (x (ix2 (j 0) e))) (fun e k => w (ix2 e k)) (j 1) + b (ix1 (j 1))

section
variable (m : (ℓ : Loc nD τ sig) → Buf (Elt Ideal) ℓ) (c : Dev nD) (t : Fin cfg0.N)

/-- The conditioning, the weights and the biases. -/
abbrev given : FVec Ideal S8x1024 .f32 := m ((c.tc : Thread nD τ).loc main_arg0)
abbrev weights : FVec Ideal S1024x6144 .f32 := m ((c.tc : Thread nD τ).loc main_arg1)
abbrev biases : FVec Ideal S6144 .f32 := m ((c.tc : Thread nD τ).loc main_arg2)

/-- What must be real for the split product to be the product. -/
structure Finite : Prop where
  given : ∀ r e, ∃ y : ℝ, given m c (ix2 r e) = y
  weight : ∀ e j, ∃ y : ℝ, weights m c (ix2 e j) = y

/-- The column of the array a block's column is. -/
def colOf (j : Fin 1536) : Fin 6144 := ⟨(grid0.coords t 0).val * 1536 + j.val, by have h : (grid0.coords t 0).val < 4 := (grid0.coords t 0).isLt; omega⟩

theorem bias_at (j : Fin 6144) : (V m c main_v0 : FVec Ideal S1x6144 .f32) (ix2 0 j) = biases m c (ix1 j) := by
  unfold V
  after_reads_at

theorem given_read (r : Fin 8) (e : Fin 1024) : iblk m c 0 t (ix2 r e) = given m c (ix2 r e) := by
  blk_ext [iblk, V, index0 t]
theorem weight_read (e : Fin 1024) (j : Fin 1536) : iblk m c 1 t (ix2 e j) = weights m c (ix2 e (colOf t j)) := by
  blk_ext [iblk, V, index1 t, colOf]
theorem bias_read (j : Fin 1536) : iblk m c 2 t (ix2 0 j) = biases m c (ix1 (colOf t j)) := by
  rw [← bias_at]
  blk_ext [iblk, index2 t, colOf]
theorem place3 (r : Fin 8) (j : Fin 1536) : ((cfg0.win 3).blk t).view.emb (ix2 r j) = ix2 r (colOf t j) := by
  blk_ext [index3 t, colOf]

/-- The array the call leaves. -/
theorem array3 (hf : Finite m c) : (dats m 0 c).arrAt 3 cfg0.N = modulations (given m c) (weights m c) (biases m c) := by
  refine (dats m 0 c).arrAt_eq_of_covers 3 _ ((cfg0.win 3).covers_of_indexMap_surj rfl (by decide) fun β =>
    ⟨pointOf (β 1), fun a => (congrFun (map3 (β 1)) a).trans (by fin_cases a <;> first | rfl | exact congrArg Fin.val (Subsingleton.elim (0 : Fin 1) (β 0)))⟩) fun t hf' y => ?_
  blk_simp
  rw [after0_3]
  idx_vars y
  rw [out_at]
  simp only [given_read, weight_read, bias_read]
  rw [splitProj_eq _ _ (fun e => silu_real _ (hf.given y0 e)) (fun e j => hf.weight e _)]
  refine Eq.trans ?_ (congrArg _ (place3 t y0 y1)).symm
  rfl

end

end Cert.AdalnIdeal.Value

namespace Cert.AdalnEqual

open Idealize.ShloMosaic Idealize.ShloMosaic.TcCoe Idealize.SL.Sem

instance facts : Pre_finite4.Facts where
  bcast_S_S8x1024 := by decide
  bcast_S_S1024x6144 := by decide

section
open AdalnRefIdeal AdalnRefIdeal.Gen
variable (x : FVec Ideal S8x1024 .f32) (w : FVec Ideal S1024x6144 .f32) (b : FVec Ideal S6144 .f32)

/-- The reference's result as a function of its arguments. -/
def result : FVec Ideal S8x6144 .f32 :=
  addf (Host.dotGeneral (φ₁ := .f32) (φ₂ := .f32) dot_S8x1024_S1024x6144_S8x6144_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w) (broadcastInDim S8x6144 ![0, 1] bcast_S1x6144_S8x6144_0_1 (broadcastInDim S1x6144 ![1] bcast_S6144_S1x6144_1 b))

/-- It is the modulations of every row. -/
theorem result_eq : result x w b = AdalnIdeal.Value.modulations x w b := by
  funext j
  idx_vars j
  unfold result AdalnIdeal.Value.modulations InprojRow.proj AdalnRow.silu
  pointwise

end

/-- What the precondition says of the conditioning and the weights. -/
theorem finite_of_pre (m : (ℓ : Loc AdalnIdeal.nD AdalnIdeal.τ AdalnIdeal.sig) → Buf (Elt Ideal) ℓ) (h : Pre_AdalnIdeal_finite4 m) (c : Dev AdalnIdeal.nD) :
    AdalnIdeal.Value.Finite m c where
  given r e := by
    have z := congrFun (h c).1 (ix2 r e)
    pointwise [Pre_finite4.fn] at z
    exact AttnEqual.real_of_bit _ z
  weight e j := by
    have z := congrFun (h c).2 (ix2 e j)
    pointwise [Pre_finite4.fn] at z
    exact AttnEqual.real_of_bit _ z

/-- The call computes what its reference computes. -/
theorem algebraic : Cert.algebraic_AdalnIdeal_AdalnRefIdeal_pre_finite4 := by
  intro m g m' g' hp ha
  have hf := finite_of_pre m hp
  refine ⟨fun c => (AdalnIdeal.Gen.dats m 0 c).arrAt 3 AdalnIdeal.cfg0.N, AdalnIdeal.Value.run_blocks m g, ?_⟩
  refine (θ_run AdalnRefIdeal.defs _ _).mono (fun r h c => ⟨(h c).1.trans ?_, (h c).2⟩) (AdalnRefIdeal.Value.run (F := Ideal) m' g')
  obtain ⟨h0, h1, h2⟩ := ha c
  refine Eq.trans ?_ (AdalnIdeal.Value.array3 m c (hf c)).symm
  rw [h0, h1, h2]
  exact result_eq _ _ _

/-- The reference runs, leaves its arguments and ends with every counter at zero. -/
theorem frame_reference (m : (ℓ : Loc AdalnRefIdeal.nD AdalnRefIdeal.τ AdalnRefIdeal.sig) → Buf (Elt Ideal) ℓ) (ρ : Dev AdalnRefIdeal.nD → PrngReg) :
    θ_run (AdalnRefIdeal.defs (F := Ideal)) (onTc (τ := AdalnRefIdeal.τ) (AdalnRefIdeal.main (F := Ideal))) ⟨m, fun _ => 0, ρ⟩ (fun r => (∀ c : Dev AdalnRefIdeal.nD,
      r.2.mem ((c.tc : Thread AdalnRefIdeal.nD AdalnRefIdeal.τ).loc AdalnRefIdeal.main_arg0) = m ((c.tc : Thread AdalnRefIdeal.nD AdalnRefIdeal.τ).loc AdalnRefIdeal.main_arg0)
      ∧ r.2.mem ((c.tc : Thread AdalnRefIdeal.nD AdalnRefIdeal.τ).loc AdalnRefIdeal.main_arg1) = m ((c.tc : Thread AdalnRefIdeal.nD AdalnRefIdeal.τ).loc AdalnRefIdeal.main_arg1)
      ∧ r.2.mem ((c.tc : Thread AdalnRefIdeal.nD AdalnRefIdeal.τ).loc AdalnRefIdeal.main_arg2) = m ((c.tc : Thread AdalnRefIdeal.nD AdalnRefIdeal.τ).loc AdalnRefIdeal.main_arg2))
      ∧ r.2.sem = fun _ => 0) :=
  (θ_run AdalnRefIdeal.defs _ _).mono (fun r h => ⟨fun c => (h c).2, sem_eq_zero_of_no_sems (by decide) r.2⟩)
    (AdalnRefIdeal.Value.run (F := Ideal) m ρ)

end Cert.AdalnEqual

end
-- ==== Proof.RouterRow.lean ====
/-
  The selection of the blocks for a row: the best blocks by rank and by sorting, and the features of a query and of a key.
-/
module

public import Idealize.ShloMosaic.Lib.Pointwise
public import Idealize.ShloMosaic.Lib.SortFacts

@[expose] public section

noncomputable section

namespace Cert.RouterRow

open Idealize.ShloMosaic

/-- One block beats another: its gate is greater, or equal and it comes first. -/
def beats (f : Fin 32 → EReal) (p q : Fin 32) : Prop := f q < f p ∨ (f p = f q ∧ p < q)

instance (f : Fin 32 → EReal) (p q : Fin 32) : Decidable (beats f p q) := Classical.propDecidable _

/-- How many blocks beat a block. -/
def rank (f : Fin 32 → EReal) (q : Fin 32) : ℕ := ∑ p, if beats f p q then 1 else 0

/-- Sorting an ascending list asks of the relation only what it says of a later element before an earlier one. -/
theorem stableSort_ascending (R R' : Fin 32 → Fin 32 → Bool) (h : ∀ a b, a < b → R b a = R' b a) (l : List (Fin 32)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.1 hb))

/-- Equal lists hold equal entries. -/
theorem get_eq {L L' : List (Fin 32)} (e : L = L') (h : 32 = L.length) (h' : 32 = L'.length) (k : Fin 32) : L.get (k.cast h) = L'.get (k.cast h') := by
  subst e
  rfl

/-- Sorting by the gates alone is sorting by who beats whom. -/
theorem sortedFrom_eq (f : Fin 32 → EReal) :
    sortedFrom (fun a b => decide (f b < f a)) = sortedFrom (fun a b => decide (beats f a b)) := by
  funext k
  unfold sortedFrom
  have e : sortPositions 32 (fun a b => decide (f b < f a)) = sortPositions 32 (fun a b => decide (beats f a b)) :=
    stableSort_ascending _ _ (fun a b hab => decide_eq_decide.2 ⟨Or.inl, fun h => h.elim id fun h => absurd h.2 hab.asymm⟩) _ (List.pairwise_lt_finRange 32)
  exact get_eq e _ _ k

theorem beats_total (f : Fin 32 → EReal) (p q : Fin 32) (h : p ≠ q) : beats f p q ∨ beats f q p := by
  unfold beats
  rcases lt_trichotomy (f p) (f q) with a | a | a
  · exact .inr (.inl a)
  · rcases lt_or_gt_of_ne h with b | b
    · exact .inl (.inr ⟨a, b⟩)
    · exact .inr (.inr ⟨a.symm, b⟩)
  · exact .inl (.inl a)

theorem beats_asymm (f : Fin 32 → EReal) (p q : Fin 32) (h : beats f p q) : ¬ beats f q p := by
  unfold beats at *
  rintro (a | ⟨a, b⟩) <;> rcases h with c | ⟨c, d⟩
  · exact lt_asymm a c
  · exact absurd a (c ▸ lt_irrefl _)
  · exact absurd c (a ▸ lt_irrefl _)
  · exact lt_asymm b d

theorem not_beats_trans (f : Fin 32 → EReal) (p q r : Fin 32) (h : ¬ beats f p q) (h' : ¬ beats f q r) : ¬ beats f p r := by
  unfold beats at *
  push Not at *
  refine ⟨h.1.trans h'.1, fun e => ?_⟩
  have h1 : f p = f q := le_antisymm h.1 (e ▸ h'.1)
  have h2 : f q = f r := h1.symm.trans e
  exact (h'.2 h2).trans (h.2 h1)

/-- The place of a block in the sorted order is its rank. -/
theorem rank_sortedFrom (f : Fin 32 → EReal) (k : Fin 32) : rank f (sortedFrom (fun a b => decide (f b < f a)) k) = k.val := by
  rw [sortedFrom_eq]
  have inj := sortedFrom_injective (fun a b => decide (beats f a b))
  have mono : ∀ i j, i < j → ¬ beats f (sortedFrom (fun a b => decide (beats f a b)) j) (sortedFrom (fun a b => decide (beats f a b)) i) := fun i j hij =>
    of_decide_eq_false (sortedFrom_noInversion (fun a b => decide (beats f a b)) (fun a b => decide (beats f a b))
      (fun a b h => decide_eq_false (beats_asymm f a b (of_decide_eq_true h))) (fun a b h => h)
      (fun a b c h h' => decide_eq_false (not_beats_trans f a b c (of_decide_eq_false h) (of_decide_eq_false h'))) i j hij)
  have surj := sortedFrom_surjective (fun a b => decide (beats f a b))
  generalize sortedFrom (fun a b => decide (beats f a b)) = s at inj mono surj
  have e : ∀ i, beats f (s i) (s k) ↔ i < k := fun i => by
    constructor
    · intro h
      rcases lt_trichotomy i k with a | a | a
      · exact a
      · exact absurd h (a ▸ fun h => beats_asymm f _ _ h h)
      · exact absurd h (mono k i a)
    · intro h
      exact (beats_total f _ _ fun e => h.ne (inj e)).resolve_right (mono i k h)
  have c : rank f (s k) = ∑ i, if i < k then 1 else 0 := by
    unfold rank
    rw [← (Equiv.ofBijective s ⟨inj, surj⟩).sum_comp]
    exact Finset.sum_congr rfl fun i _ => if_congr (e i) rfl rfl
  rw [c, ← Finset.card_filter, show (Finset.univ.filter fun i => i < k) = Finset.Iio k from by ext; simp, Fin.card_Iio]

/-- A block is among the first three of the sorted order exactly when fewer than three beat it. -/
theorem top_three (f : Fin 32 → EReal) (q : Fin 32) :
    (sortedFrom (fun a b => decide (f b < f a)) 0 = q ∨ sortedFrom (fun a b => decide (f b < f a)) 1 = q ∨ sortedFrom (fun a b => decide (f b < f a)) 2 = q)
      ↔ rank f q < 3 := by
  constructor
  · rintro (h | h | h) <;> rw [← h, rank_sortedFrom] <;> decide
  · intro h
    obtain ⟨k, rfl⟩ := sortedFrom_surjective (fun a b => decide (f b < f a)) q
    rw [rank_sortedFrom] at h
    have : k = 0 ∨ k = 1 ∨ k = 2 := by omega
    rcases this with rfl | rfl | rfl <;> simp

/-- The gates of the blocks before a query's own. -/
def earlier (g : Fin 32 → EReal) (i : Fin 32) (b : Fin 32) : EReal := if b < i then g b else ⊥

/-- A query attends to a block: its own, or one of the three best earlier ones. -/
def attends (g : Fin 32 → EReal) (i b : Fin 32) : Prop := (rank (earlier g i) b < 3 ∧ b < i) ∨ b = i

instance (g : Fin 32 → EReal) (i b : Fin 32) : Decidable (attends g i b) := Classical.propDecidable _

/-- The features of a query: the query scaled, then the biases of the blocks, then zeros. -/
def queryRow (q : Fin 64 → EReal) (g : Fin 32 → EReal) (i : Fin 32) (l : Fin 128) : EReal :=
  if h : l.val < 64 then q ⟨l.val, h⟩ * Ideal.ofBits .f32 0x3E000000#32
  else if h : l.val < 96 then (if attends g i ⟨l.val - 64, by omega⟩ then 0 else Ideal.ofBits .f32 0xF1800000#32) else 0

/-- The features of a key: the key, then which block is its own, then zeros. -/
def keyRow (k : Fin 64 → EReal) (i : Fin 32) (l : Fin 128) : EReal :=
  if h : l.val < 64 then k ⟨l.val, h⟩ else if l.val = 64 + i.val then 1 else 0

/-- A selection by a decided proposition. -/
theorem select_ofBool {α : Type} (p : Prop) [Decidable p] (x y : α) : Scalar.select (BitVec.ofBool (decide p)) x y = if p then x else y := by
  by_cases h : p <;> simp [h, Scalar.select]

/-- Comparisons of block numbers as words. -/
theorem word_lt (a b : Fin 32) : IntOp.cmpi .slt (BitVec.ofNat 32 a.val) (BitVec.ofNat 32 b.val) = BitVec.ofBool (decide (a < b)) := by
  revert a b
  decide +kernel
theorem word_gt (a b : Fin 32) : IntOp.cmpi .sgt (BitVec.ofNat 32 a.val) (BitVec.ofNat 32 b.val) = BitVec.ofBool (decide (b < a)) := by
  revert a b
  decide +kernel
theorem word_eq (a b : Fin 32) : IntOp.cmpi .eq (BitVec.ofNat 32 a.val) (BitVec.ofNat 32 b.val) = BitVec.ofBool (decide (a = b)) := by
  revert a b
  decide +kernel
theorem ofBool_or (p q : Prop) [Decidable p] [Decidable q] : IntOp.ori (BitVec.ofBool (decide p)) (BitVec.ofBool (decide q)) = BitVec.ofBool (decide (p ∨ q)) := by
  by_cases h : p <;> by_cases h' : q <;> simp [h, h', IntOp.ori]
theorem ofBool_and (p q : Prop) [Decidable p] [Decidable q] : IntOp.andi (BitVec.ofBool (decide p)) (BitVec.ofBool (decide q)) = BitVec.ofBool (decide (p ∧ q)) := by
  by_cases h : p <;> by_cases h' : q <;> simp [h, h', IntOp.andi]

/-- One where a block beats another, as words decide it. -/
def step (f : Fin 32 → EReal) (q p : Fin 32) : EReal :=
  Scalar.select (IntOp.ori (BitVec.ofBool (decide (f q < f p))) (IntOp.andi (BitVec.ofBool (decide (f p = f q))) (IntOp.cmpi .sgt (BitVec.ofNat 32 q.val) (BitVec.ofNat 32 p.val)))) 1 0

theorem step_eq (f : Fin 32 → EReal) (q p : Fin 32) : step f q p = if beats f p q then 1 else 0 := by
  unfold step
  rw [word_gt, ofBool_and, ofBool_or, select_ofBool]
  exact if_congr Iff.rfl rfl rfl

/-- The rank is the sum of the ones. -/
theorem rank_cast (f : Fin 32 → EReal) (q : Fin 32) : ((rank f q : ℕ) : EReal) = ∑ k ∈ Finset.range 32, step f q (Fin.ofNat 32 k) := by
  unfold rank
  rw [Nat.cast_sum, Finset.sum_range]
  refine Finset.sum_congr rfl fun p _ => ?_
  rw [step_eq, show Fin.ofNat 32 p.val = p by simp]
  split <;> simp

theorem word_three : Ideal.ofBits .f32 0x40400000#32 = ((3 : ℕ) : EReal) := by
  simp [Ideal.ofBits, Ideal.ieee]
  rw [← EReal.coe_mul]
  norm_num
  rfl

/-- The bias chosen by the rank of a block and by its number. -/
theorem select_attends (g : Fin 32 → EReal) (i n : Fin 32) (T x y : EReal) (hT : T = ∑ k ∈ Finset.range 32, step (earlier g i) n (Fin.ofNat 32 k)) :
    Scalar.select (IntOp.ori (IntOp.andi (BitVec.ofBool (decide (T < Ideal.ofBits .f32 0x40400000#32))) (IntOp.cmpi .slt (BitVec.ofNat 32 n.val) (BitVec.ofNat 32 i.val)))
      (IntOp.cmpi .eq (BitVec.ofNat 32 n.val) (BitVec.ofNat 32 i.val))) x y = if attends g i n then x else y := by
  rw [word_lt, word_eq, ofBool_and, ofBool_or, select_ofBool, hT, ← rank_cast, word_three]
  exact if_congr (by unfold attends; rw [Nat.cast_lt]) rfl rfl

/-- A row of queries at the features, at the blocks and after them. -/
theorem queryRow_low (q : Fin 64 → EReal) (g : Fin 32 → EReal) (i : Fin 32) {l : Fin 128} (h : l.val < 64) :
    queryRow q g i l = q ⟨l.val, h⟩ * Ideal.ofBits .f32 0x3E000000#32 := dif_pos h
theorem queryRow_mid (q : Fin 64 → EReal) (g : Fin 32 → EReal) (i : Fin 32) {l : Fin 128} (h : ¬ l.val < 64) (h' : l.val < 96) :
    queryRow q g i l = if attends g i ⟨l.val - 64, by omega⟩ then 0 else Ideal.ofBits .f32 0xF1800000#32 := (dif_neg h).trans (dif_pos h')
theorem queryRow_high (q : Fin 64 → EReal) (g : Fin 32 → EReal) (i : Fin 32) {l : Fin 128} (h : ¬ l.val < 64) (h' : ¬ l.val < 96) :
    queryRow q g i l = 0 := (dif_neg h).trans (dif_neg h')

/-- A real number less itself. -/
theorem sub_self_real {x : EReal} (h : ∃ y : ℝ, x = y) : x - x = 0 := by
  obtain ⟨y, rfl⟩ := h
  rw [← EReal.coe_sub, sub_self, EReal.coe_zero]

end Cert.RouterRow
-- ==== Proof.RouterRows.lean ====
/-
  What the call of the selection computes for a block of queries and keys, read at a row and a feature.
-/
module

public import proofs.«01_k».proof.Proof.Gen.RouterIdeal.Value
public import proofs.«01_k».proof.Proof.RouterRow
public import Idealize.ShloMosaic.Lib.Pointwise
public import Idealize.ShloMosaic.Lib.Pipeline.ValueKit

@[expose] public section

set_option maxRecDepth 16384

noncomputable section

namespace Cert.RouterIdeal.Value

open Cert.RouterIdeal Cert.RouterIdeal.Gen Cert.RouterRow Idealize.ShloMosaic Idealize.ShloMosaic.TcCoe Idealize.SL.Sem

/-- Of two stores, a head's rows are its own. -/
theorem piece1 (u w : Vec Ideal S1x1x256x128 .bf16) (r : Fin 256) (l : Fin 128) :
    View.canon [⟨r0_3, u⟩, ⟨r0_2, w⟩] (ix4 0 1 r l) = u (ix4 0 0 r l) := by
  have e : (ix4 0 1 r l : S1x2x256x128.Idx) = r0_3.emb (ix4 0 0 r l) := by
    funext a; fin_cases a <;> exact Fin.ext (by simp [ix4])
  rw [e, View.canon_cons_emb]
theorem piece0 (u w : Vec Ideal S1x1x256x128 .bf16) (r : Fin 256) (l : Fin 128) :
    View.canon [⟨r0_3, u⟩, ⟨r0_2, w⟩] (ix4 0 0 r l) = w (ix4 0 0 r l) := by
  have e : (ix4 0 0 r l : S1x2x256x128.Idx) = r0_2.emb (ix4 0 0 r l) := by
    funext a; fin_cases a <;> exact Fin.ext (by simp [ix4])
  rw [View.canon_cons_of_not_mem, e, View.canon_cons_emb]
  intro h
  have h' := (Rect.mem_set_unit (inb := inb_S1x2x256x128_S1x1x256x128_0_1_0_0)).1 h 1
  exact absurd h'.1 (show ¬ (1 ≤ 0) by decide)

section
variable (i : grid0.Coords) (x0 x1 : Vec Ideal S1x256x128 .f32) (x2 : Vec Ideal S1x32x128 .f32) (r : Fin 256)

/-- The block of queries a point of the grid is of. -/
def own : Fin 32 := ⟨(i 2).val, (i 2).isLt⟩

theorem own_val : (i 2).val = (own i).val := rfl

theorem head0_at (l : Fin 128) : k0_pay81 i x0 x1 x2 (ix2 r l) = BitVec.ofBool (decide (l.val < 64)) := by
  unfold k0_pay81
  pointwise [k0_pay9]
  revert l
  decide +kernel

theorem head1_at (l : Fin 128) :
    k0_pay42 (k0_pay74 i x0 x1 x2) 64#32 (k0_pay83 i x0 x1 x2) (k0_pay84 i x0 x1 x2) (k0_pay85 i x0 x1 x2) (ix2 r l) = BitVec.ofBool (decide (64 ≤ l.val)) := by
  unfold k0_pay83 k0_pay84 k0_pay85 k0_pay74
  pointwise [k0_pay42, k0_pay39, k0_pay40, k0_pay41]
  revert l
  decide +kernel

theorem lane_lt (l : Fin 128) : IntOp.cmpi .slt (BitVec.ofNat 32 l.val) 64#32 = BitVec.ofBool (decide (l.val < 64)) := by
  revert l
  decide +kernel
theorem lane_eq (l : Fin 128) (n : Fin 32) : IntOp.cmpi .eq (BitVec.ofNat 32 l.val) (Scalar.addi 64#32 (BitVec.ofNat 32 n.val)) = BitVec.ofBool (decide (l.val = 64 + n.val)) := by
  revert l n
  decide +kernel

/-- A head's query or key, of the row of both. -/
def half0 (x : Vec Ideal S1x256x128 .f32) (d : Fin 64) : EReal := x (ix3 0 r ⟨d.val, by omega⟩)
def half1 (x : Vec Ideal S1x256x128 .f32) (d : Fin 64) : EReal := x (ix3 0 r ⟨64 + d.val, by omega⟩)

/-- A head's gates of a query for all blocks. -/
def gates0 (n : Fin 32) : EReal := ∑ d, half0 r x0 d * x2 (ix3 0 n ⟨d.val, by omega⟩)
def gates1 (n : Fin 32) : EReal := ∑ d, half1 r x0 d * x2 (ix3 0 n ⟨64 + d.val, by omega⟩)

theorem word_bot : Ideal.ofBits .f32 0xFF800000#32 = ⊥ := by
  simp [Ideal.ofBits, Ideal.ieee]

section
variable (h0 : ∀ r e, ∃ y : ℝ, x0 (ix3 0 r e) = y) (h2 : ∀ n e, ∃ y : ℝ, x2 (ix3 0 n e) = y)
include h0 h2

theorem gate0_at (n : Fin 32) : k0_pay82 i x0 x1 x2 (ix2 n r) = earlier (gates0 x0 x2 r) (own i) n := by
  unfold k0_pay82
  pointwise [k0_pay11, k0_pay10, head0_at, k0_pay76, k0_pay3, k0_pay78, k0_pay6, k0_pay79, k0_pay80, k0_pay7, k0_pay8, k0_pay5]
  rw [own_val, word_lt, select_ofBool, word_bot]
  unfold earlier
  refine if_congr Iff.rfl ?_ rfl
  simp only [sub_self_real (h2 _ _), sub_self_real (h0 _ _), zero_mul, mul_zero, Finset.sum_const_zero, add_zero, zero_add, mul_comm (x2 _)]
  rfl

theorem gate1_at (n : Fin 32) : k0_pay86 i x0 x1 x2 (ix2 n r) = earlier (gates1 x0 x2 r) (own i) n := by
  unfold k0_pay86
  pointwise [k0_pay44, k0_pay43, head1_at, k0_pay76, k0_pay3, k0_pay78, k0_pay6, k0_pay79, k0_pay80, k0_pay7, k0_pay8, k0_pay5]
  rw [own_val, word_lt, select_ofBool, word_bot]
  unfold earlier
  refine if_congr Iff.rfl ?_ rfl
  simp only [sub_self_real (h2 _ _), sub_self_real (h0 _ _), zero_mul, mul_zero, Finset.sum_const_zero, add_zero, zero_add, mul_comm (x2 _)]
  rfl

/-- The first head's queries. -/
theorem query0_at (l : Fin 128) : out0_3 i x0 x1 x2 (ix4 0 0 r l) = queryRow (half0 r x0) (gates0 x0 x2 r) (own i) l := by
  have hg := fun n => gate0_at i x0 x1 x2 r h0 h2 n
  unfold out0_3
  rw [piece0]
  have e : k0_pay11 (k0_pay76 i x0 x1 x2) (k0_pay78 i x0 x1 x2) (k0_pay79 i x0 x1 x2) (k0_pay80 i x0 x1 x2) (k0_pay81 i x0 x1 x2) = k0_pay82 i x0 x1 x2 := rfl
  unfold k0_pay12 k0_pay14 k0_pay15 k0_pay13 k0_pay19 k0_pay20 k0_pay26 k0_pay27 k0_pay31 k0_pay32 k0_pay18 k0_pay25 k0_pay30
  rw [e]
  generalize k0_pay82 i x0 x1 x2 = g at hg ⊢
  pointwise [k0_pay37, k0_pay10, head0_at, k0_pay74, k0_pay76, k0_pay3]
  rw [lane_lt, select_ofBool]
  unfold queryRow
  by_cases hl : l.val < 64
  · rw [if_pos hl, dif_pos hl, if_pos hl]
    rfl
  · rw [if_neg hl, dif_neg hl, dif_neg hl]
    by_cases hm : l.val < 96
    · rw [dif_pos (by omega), dif_pos hm]
      pointwise [k0_pay36, k0_pay34, k0_pay33, k0_pay29, k0_pay24, k0_pay22, k0_pay21, k0_pay17, k0_pay16, k0_pay23, k0_pay28, k0_pay35, k0_pay75, k0_pay78, k0_pay6]
      simp only [hg, own_val]
      refine select_attends (gates0 x0 x2 r) (own i) ⟨l.val - 64, by omega⟩ _ _ _ ?_
      simp only [Finset.sum_range_succ, Finset.sum_range_zero, zero_add]
      rfl
    · rw [dif_neg (by omega), dif_neg hm]

/-- The second head's queries. -/
theorem query1_at (l : Fin 128) : out0_3 i x0 x1 x2 (ix4 0 1 r l) = queryRow (half1 r x0) (gates1 x0 x2 r) (own i) l := by
  have hg := fun n => gate1_at i x0 x1 x2 r h0 h2 n
  have hm := fun l => head1_at i x0 x1 x2 r l
  have e : k0_pay44 (k0_pay76 i x0 x1 x2) (k0_pay74 i x0 x1 x2) (k0_pay78 i x0 x1 x2) (k0_pay79 i x0 x1 x2) (k0_pay80 i x0 x1 x2) 64#32
    (k0_pay83 i x0 x1 x2) (k0_pay84 i x0 x1 x2) (k0_pay85 i x0 x1 x2) = k0_pay86 i x0 x1 x2 := rfl
  unfold out0_3
  rw [piece1]
  unfold k0_pay46 k0_pay43
  rw [e]
  generalize k0_pay86 i x0 x1 x2 = g at hg ⊢
  generalize k0_pay42 (k0_pay74 i x0 x1 x2) 64#32 (k0_pay83 i x0 x1 x2) (k0_pay84 i x0 x1 x2) (k0_pay85 i x0 x1 x2) = v at hm ⊢
  pointwise [k0_pay1, k0_pay73, k0_pay69, k0_pay66, k0_pay61, k0_pay59, k0_pay57, k0_pay54, k0_pay49, k0_pay47, k0_pay45, k0_pay48, k0_pay50, k0_pay51, k0_pay52, k0_pay53, k0_pay55, k0_pay56,
    k0_pay58, k0_pay60, k0_pay62, k0_pay63, k0_pay64, k0_pay65, k0_pay67, k0_pay68, k0_pay70, k0_pay74, k0_pay75, k0_pay76, k0_pay78, k0_pay3, k0_pay5, k0_pay6]
  have hs : ∀ x y : EReal, Scalar.select (IntOp.cmpi .slt (BitVec.ofNat 32 l.val) 64#32) x y = if l.val < 64 then x else y := fun x y => by
    rw [lane_lt, select_ofBool]
  by_cases hl : l.val < 64
  · refine ((hs _ _).trans (if_pos hl)).trans (Eq.trans ?_ (queryRow_low _ _ _ hl).symm)
    rw [hm, select_ofBool, if_pos (by show 64 ≤ (l.val + 128 - 64) % 128; omega)]
    exact congrArg (fun z => x0 (ix3 0 r z) * _) (Fin.ext (by show (l.val + 128 - 64) % 128 = 64 + l.val; omega))
  · refine ((hs _ _).trans (if_neg hl)).trans ?_
    refine (dif_neg hl).trans ?_
    by_cases h96 : l.val < 96
    · refine (dif_pos (show l.val - 64 < 32 by omega)).trans (Eq.trans ?_ (queryRow_mid _ _ _ hl h96).symm)
      simp only [hg, own_val]
      refine select_attends (gates1 x0 x2 r) (own i) ⟨l.val - 64, by omega⟩ _ _ _ ?_
      simp only [Finset.sum_range_succ, Finset.sum_range_zero, zero_add]
      rfl
    · exact (dif_neg (show ¬ l.val - 64 < 32 by omega)).trans (queryRow_high _ _ _ hl h96).symm

end

/-- The second head's keys. -/
theorem key1_at (l : Fin 128) : out0_4 i x0 x1 x2 (ix4 0 1 r l) = keyRow (half1 r x1) (own i) l := by
  unfold out0_4
  rw [piece1]
  have e := fun l => head1_at i x0 x1 x2 r l
  generalize k0_pay42 (k0_pay74 i x0 x1 x2) 64#32 (k0_pay83 i x0 x1 x2) (k0_pay84 i x0 x1 x2) (k0_pay85 i x0 x1 x2) = v at e ⊢
  pointwise [k0_pay2, k0_pay71, k0_pay72, k0_pay74, k0_pay77, k0_pay4]
  rw [lane_lt, select_ofBool, e, own_val, lane_eq, select_ofBool, select_ofBool]
  unfold keyRow half1
  by_cases hl : l.val < 64
  · rw [if_pos hl, dif_pos hl, if_pos (by show 64 ≤ (l.val + 128 - 64) % 128; omega)]
    exact congrArg (fun z => x1 (ix3 0 r z)) (Fin.ext (by show (l.val + 128 - 64) % 128 = 64 + l.val; omega))
  · rw [if_neg hl, dif_neg hl]

/-- The first head's keys. -/
theorem key0_at (l : Fin 128) : out0_4 i x0 x1 x2 (ix4 0 0 r l) = keyRow (half0 r x1) (own i) l := by
  unfold out0_4
  rw [piece0]
  pointwise [k0_pay38, head0_at, k0_pay74, k0_pay77, k0_pay4]
  rw [lane_lt, select_ofBool, own_val, lane_eq, select_ofBool]
  unfold keyRow half0
  by_cases hl : l.val < 64
  · rw [if_pos hl, dif_pos hl, if_pos hl]
  · rw [if_neg hl, dif_neg hl]

end

end Cert.RouterIdeal.Value

end
-- ==== Proof.RouterArray.lean ====
/-
  The arrays the call of the selection leaves: every row of queries and of keys with its features of the selection.
-/
module

public import proofs.«01_k».proof.Proof.RouterRows
public import Idealize.ShloMosaic.Lib.Pipeline.Covers

@[expose] public section

set_option maxRecDepth 16384

noncomputable section

namespace Cert.RouterIdeal.Value

open Cert.RouterIdeal Cert.RouterIdeal.Gen Cert.RouterRow Idealize.ShloMosaic Idealize.ShloMosaic.TcCoe Idealize.SL.Sem

/-! ## The arrays -/

section
variable (Q : FVec Ideal S2x8192x512 .f32) (M : FVec Ideal S2x32x512 .f32)

/-- A head's vector at a batch and position. -/
def headOf (b : Fin 2) (h : Fin 8) (l : Fin 8192) (d : Fin 64) : EReal := Q (ix3 b l ⟨h.val * 64 + d.val, by omega⟩)
/-- A head's gates at a batch and position. -/
def gatesOf (b : Fin 2) (h : Fin 8) (l : Fin 8192) (n : Fin 32) : EReal := ∑ d, headOf Q b h l d * M (ix3 b n ⟨h.val * 64 + d.val, by omega⟩)
/-- The block a position is in. -/
def blockOf (l : Fin 8192) : Fin 32 := ⟨l.val / 256, by omega⟩

/-- The queries and the keys. -/
def queries : FVec Ideal S2x8x8192x128 .bf16 := fun j => queryRow (headOf Q (j 0) (j 1) (j 2)) (gatesOf Q M (j 0) (j 1) (j 2)) (blockOf (j 2)) (j 3)
def keys : FVec Ideal S2x8x8192x128 .bf16 := fun j => keyRow (headOf Q (j 0) (j 1) (j 2)) (blockOf (j 2)) (j 3)

end

/-! ## A block's rows, for either of its heads -/

section
variable (i : grid0.Coords) (x0 x1 : Vec Ideal S1x256x128 .f32) (x2 : Vec Ideal S1x32x128 .f32) (r : Fin 256) (h : Fin 2)

/-- A head's query or key, and its gates. -/
def half (x : Vec Ideal S1x256x128 .f32) (d : Fin 64) : EReal := x (ix3 0 r ⟨h.val * 64 + d.val, by omega⟩)
def gates (n : Fin 32) : EReal := ∑ d, half r h x0 d * x2 (ix3 0 n ⟨h.val * 64 + d.val, by omega⟩)

theorem low_lane (d : Fin 64) : (⟨(0 : Fin 2).val * 64 + d.val, by omega⟩ : Fin 128) = ⟨d.val, by omega⟩ := Fin.ext (by simp)
theorem high_lane (d : Fin 64) : (⟨(1 : Fin 2).val * 64 + d.val, by omega⟩ : Fin 128) = ⟨64 + d.val, by omega⟩ := Fin.ext (by simp)

theorem query_at (h0 : ∀ r e, ∃ y : ℝ, x0 (ix3 0 r e) = y) (h2 : ∀ n e, ∃ y : ℝ, x2 (ix3 0 n e) = y) (l : Fin 128) :
    out0_3 i x0 x1 x2 (ix4 0 h r l) = queryRow (half r h x0) (gates x0 x2 r h) (own i) l := by
  fin_cases h
  · refine (query0_at i x0 x1 x2 r h0 h2 l).trans ?_
    unfold gates half gates0 half0
    simp only [← low_lane]
    rfl
  · refine (query1_at i x0 x1 x2 r h0 h2 l).trans ?_
    unfold gates half gates1 half1
    simp only [← high_lane]
    rfl

theorem key_at (l : Fin 128) : out0_4 i x0 x1 x2 (ix4 0 h r l) = keyRow (half r h x1) (own i) l := by
  fin_cases h
  · refine (key0_at i x0 x1 x2 r l).trans ?_
    unfold half half0
    simp only [← low_lane]
    rfl
  · refine (key1_at i x0 x1 x2 r l).trans ?_
    unfold half half1
    simp only [← high_lane]
    rfl

end

/-! ## The blocks' places -/

theorem index0 : ∀ t : Fin cfg0.N, (cfg0.win 0).index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem index1 : ∀ t : Fin cfg0.N, (cfg0.win 1).index t = ![(grid0.coords t 0).val, (grid0.coords t 2).val, (grid0.coords t 1).val] :=
  (by decide +kernel : ∀ t : Fin grid0.N, win0_1.index t = ![(grid0.coords t 0).val, (grid0.coords t 2).val, (grid0.coords t 1).val])
theorem index2 : ∀ t : Fin cfg0.N, (cfg0.win 2).index t = ![(grid0.coords t 0).val, 0, (grid0.coords t 1).val] :=
  (by decide +kernel : ∀ t : Fin grid0.N, win0_2.index t = ![(grid0.coords t 0).val, 0, (grid0.coords t 1).val])
theorem index3 : ∀ t : Fin cfg0.N, (cfg0.win 3).index t = ![(grid0.coords t 0).val, (grid0.coords t 1).val, (grid0.coords t 2).val, 0] :=
  (by decide +kernel : ∀ t : Fin grid0.N, win0_3.index t = ![(grid0.coords t 0).val, (grid0.coords t 1).val, (grid0.coords t 2).val, 0])
theorem index4 : ∀ t : Fin cfg0.N, (cfg0.win 4).index t = ![(grid0.coords t 0).val, (grid0.coords t 1).val, (grid0.coords t 2).val, 0] :=
  (by decide +kernel : ∀ t : Fin grid0.N, win0_4.index t = ![(grid0.coords t 0).val, (grid0.coords t 1).val, (grid0.coords t 2).val, 0])

/-- The grid point of a batch, a pair of heads and a block of rows. -/
def pointOf (b : Fin 2) (p : Fin 4) (i : Fin 32) : grid0.Coords := fun a => match a with | 0 => b | 1 => p | 2 => i

theorem map3 : ∀ (b : Fin 2) (p : Fin 4) (i : Fin 32), cc0_transform_3 (pointOf b p i) = ![b.val, p.val, i.val, 0] := by decide +kernel
theorem map4 : ∀ (b : Fin 2) (p : Fin 4) (i : Fin 32), cc0_transform_4 (pointOf b p i) = ![b.val, p.val, i.val, 0] := by decide +kernel

section
variable (m : (ℓ : Loc nD τ sig) → Buf (Elt Ideal) ℓ) (c : Dev nD) (t : Fin cfg0.N)

/-- The queries, the keys and the keys' means the call is given. -/
abbrev givenQ : FVec Ideal S2x8192x512 .f32 := m ((c.tc : Thread nD τ).loc main_arg0)
abbrev givenK : FVec Ideal S2x8192x512 .f32 := m ((c.tc : Thread nD τ).loc main_arg1)
abbrev givenM : FVec Ideal S2x32x512 .f32 := m ((c.tc : Thread nD τ).loc main_arg2)

/-- What must be real for the split product to be the product. -/
structure Finite : Prop where
  query : ∀ b l e, ∃ y : ℝ, givenQ m c (ix3 b l e) = y
  mean : ∀ b n e, ∃ y : ℝ, givenM m c (ix3 b n e) = y

/-- The batch of a grid point, its pair of heads and its block of rows. -/
def batchOf : Fin 2 := ⟨(grid0.coords t 0).val, (grid0.coords t 0).isLt⟩
def pairOf : Fin 4 := ⟨(grid0.coords t 1).val, (grid0.coords t 1).isLt⟩
def rowsOf : Fin 32 := ⟨(grid0.coords t 2).val, (grid0.coords t 2).isLt⟩
/-- The row of the array a block's row is. -/
def rowOf (r : Fin 256) : Fin 8192 := ⟨(rowsOf t).val * 256 + r.val, by omega⟩

theorem query_read (r : Fin 256) (e : Fin 128) : iblk m c 0 t (ix3 0 r e) = givenQ m c (ix3 (batchOf t) (rowOf t r) ⟨(pairOf t).val * 128 + e.val, by omega⟩) := by
  blk_ext [iblk, V, index0 t, batchOf, pairOf, rowOf, rowsOf]
theorem key_read (r : Fin 256) (e : Fin 128) : iblk m c 1 t (ix3 0 r e) = givenK m c (ix3 (batchOf t) (rowOf t r) ⟨(pairOf t).val * 128 + e.val, by omega⟩) := by
  blk_ext [iblk, V, index1 t, batchOf, pairOf, rowOf, rowsOf]
theorem mean_read (n : Fin 32) (e : Fin 128) : iblk m c 2 t (ix3 0 n e) = givenM m c (ix3 (batchOf t) n ⟨(pairOf t).val * 128 + e.val, by omega⟩) := by
  blk_ext [iblk, V, index2 t, batchOf, pairOf]
theorem place3 (h : Fin 2) (r : Fin 256) (l : Fin 128) : ((cfg0.win 3).blk t).view.emb (ix4 0 h r l) = ix4 (batchOf t) ⟨(pairOf t).val * 2 + h.val, by omega⟩ (rowOf t r) l := by
  blk_ext [index3 t, batchOf, pairOf, rowOf, rowsOf]
theorem place4 (h : Fin 2) (r : Fin 256) (l : Fin 128) : ((cfg0.win 4).blk t).view.emb (ix4 0 h r l) = ix4 (batchOf t) ⟨(pairOf t).val * 2 + h.val, by omega⟩ (rowOf t r) l := by
  blk_ext [index4 t, batchOf, pairOf, rowOf, rowsOf]

theorem lane_eq' (h : Fin 2) (d : Fin 64) : (⟨(pairOf t).val * 128 + (h.val * 64 + d.val), by omega⟩ : Fin 512)
    = ⟨((pairOf t).val * 2 + h.val) * 64 + d.val, by omega⟩ := Fin.ext (by simp only []; omega)
theorem own_eq (r : Fin 256) : own (grid0.coords t) = blockOf (rowOf t r) := Fin.ext (by
  show (rowsOf t).val = ((rowsOf t).val * 256 + r.val) / 256
  omega)

/-- A block's vectors and gates in the arrays. -/
theorem half_query (h : Fin 2) (r : Fin 256) : half r h (iblk m c 0 t) = headOf (givenQ m c) (batchOf t) ⟨(pairOf t).val * 2 + h.val, by omega⟩ (rowOf t r) := by
  funext d
  unfold half headOf
  rw [query_read, lane_eq']
theorem half_key (h : Fin 2) (r : Fin 256) : half r h (iblk m c 1 t) = headOf (givenK m c) (batchOf t) ⟨(pairOf t).val * 2 + h.val, by omega⟩ (rowOf t r) := by
  funext d
  unfold half headOf
  rw [key_read, lane_eq']
theorem gates_eq (h : Fin 2) (r : Fin 256) : gates (iblk m c 0 t) (iblk m c 2 t) r h
    = gatesOf (givenQ m c) (givenM m c) (batchOf t) ⟨(pairOf t).val * 2 + h.val, by omega⟩ (rowOf t r) := by
  funext n
  unfold gates gatesOf
  rw [half_query]
  refine Finset.sum_congr rfl fun d _ => ?_
  rw [mean_read, lane_eq']

/-- The queries the call leaves. -/
theorem array3 (hf : Finite m c) : (dats m 0 c).arrAt 3 cfg0.N = queries (givenQ m c) (givenM m c) := by
  refine (dats m 0 c).arrAt_eq_of_covers 3 _ ((cfg0.win 3).covers_of_indexMap_surj rfl (by decide) fun β =>
    ⟨pointOf (β 0) (β 1) (β 2), fun a => (congrFun (map3 (β 0) (β 1) (β 2)) a).trans (by fin_cases a <;> first | rfl | exact congrArg Fin.val (Subsingleton.elim (0 : Fin 1) (β 3)))⟩) fun t hf' y => ?_
  blk_simp
  rw [after0_3]
  idx_vars y
  rw [Subsingleton.elim y0 0, query_at _ _ _ _ _ _ (fun r e => by rw [query_read]; exact hf.query _ _ _) (fun n e => by rw [mean_read]; exact hf.mean _ _ _)]
  refine Eq.trans ?_ (congrArg _ (place3 t y1 y2 y3)).symm
  rw [half_query, gates_eq, own_eq t y2]
  rfl

/-- The keys the call leaves. -/
theorem array4 : (dats m 0 c).arrAt 4 cfg0.N = keys (givenK m c) := by
  refine (dats m 0 c).arrAt_eq_of_covers 4 _ ((cfg0.win 4).covers_of_indexMap_surj rfl (by decide) fun β =>
    ⟨pointOf (β 0) (β 1) (β 2), fun a => (congrFun (map4 (β 0) (β 1) (β 2)) a).trans (by fin_cases a <;> first | rfl | exact congrArg Fin.val (Subsingleton.elim (0 : Fin 1) (β 3)))⟩) fun t hf' y => ?_
  blk_simp
  rw [after0_4]
  idx_vars y
  rw [Subsingleton.elim y0 0, key_at]
  refine Eq.trans ?_ (congrArg _ (place4 t y1 y2 y3)).symm
  rw [half_key, own_eq t y2]
  rfl

end

end Cert.RouterIdeal.Value

end
-- ==== Proof.RouterReference.lean ====
/-
  The plain selection of the blocks at an index.
-/
module

public import proofs.«01_k».proof.Proof.Gen.RouterRefIdeal.Run
public import proofs.«01_k».proof.Proof.RouterArray
public import Idealize.ShloMosaic.Lib.Pointwise

@[expose] public section

set_option maxRecDepth 16384

noncomputable section

namespace Cert.RouterRefIdeal.Value

open Cert.RouterRefIdeal Cert.RouterRefIdeal.Gen Cert.RouterRow Idealize.ShloMosaic Idealize.ShloMosaic.TcCoe Idealize.SL.Sem
open Cert.RouterIdeal.Value (headOf gatesOf blockOf)

/-- The block of every position. -/
def owns : IVec S8192 32 :=
  select (andi (cmpi .ne (signi (iotaInDim S8192 32 0)) (broadcastInDim S8192 ![] bcast_S_S8192 (signi (id (constantI S_ 32 256#32))))) (cmpi .ne (Host.remsi (iotaInDim S8192 32 0) (broadcastInDim S8192 ![] bcast_S_S8192 (id (constantI S_ 32 256#32)))) (broadcastInDim S8192 ![] bcast_S_S8192 (constantI S_ 32 0#32)))) (subi (Host.divsi (iotaInDim S8192 32 0) (broadcastInDim S8192 ![] bcast_S_S8192 (id (constantI S_ 32 256#32)))) (broadcastInDim S8192 ![] bcast_S_S8192 (constantI S_ 32 1#32))) (Host.divsi (iotaInDim S8192 32 0) (broadcastInDim S8192 ![] bcast_S_S8192 (id (constantI S_ 32 256#32))))

/-- The quotient of a position by the length of a block, as words. -/
theorem div_word (l : Fin 8192) : IntOp.divsi .host (BitVec.ofNat 32 l.val) 256#32 = BitVec.ofNat 32 (l.val / 256) := by
  have hm : (BitVec.ofNat 32 l.val).msb = false := by
    rw [BitVec.msb_eq_false_iff_two_mul_lt, BitVec.toNat_ofNat]; omega
  have hk : (256#32 : BitVec 32).msb = false := by decide
  unfold IntOp.divsi
  rw [if_neg (by simp [IntOp.SDivCorner]), BitVec.sdiv_eq, hm, hk]
  apply BitVec.eq_of_toNat_eq
  simp only [BitVec.udiv_eq, BitVec.toNat_udiv, BitVec.toNat_ofNat]
  have hl : l.val < 8192 := l.isLt
  rw [Nat.mod_eq_of_lt (show l.val < 2 ^ 32 by omega), Nat.mod_eq_of_lt (show 256 < 2 ^ 32 by omega), Nat.mod_eq_of_lt (show l.val / 256 < 2 ^ 32 by omega)]

/-- The rounding down of a quotient changes nothing where the dividend is not negative. -/
theorem floor_word (w q : BitVec 32) (hm : w.msb = false) (hq : IntOp.divsi .host w 256#32 = q) :
    Scalar.select (IntOp.andi (IntOp.cmpi .ne (if w = 0 then (0 : BitVec 32) else if w.msb = true then -1 else 1) (if (256#32 : BitVec 32) = 0 then (0 : BitVec 32) else if (256#32 : BitVec 32).msb = true then -1 else 1))
      (IntOp.cmpi .ne (IntOp.remsi .host w 256#32) 0#32)) (IntOp.subi (IntOp.divsi .host w 256#32) 1#32) (IntOp.divsi .host w 256#32) = q := by
  have h0 : ∀ (x : BitVec 1) (y z : BitVec 32), x = 0#1 → Scalar.select x y z = z := by
    intro x y z h
    subst h
    rfl
  refine (h0 _ _ _ ?_).trans hq
  by_cases h : w = 0
  · subst h
    decide
  · rw [if_neg h, hm, if_neg (by decide), if_neg (by decide), if_neg (by decide), show IntOp.cmpi .ne (1 : BitVec 32) 1 = 0#1 by decide]
    exact (by decide : ∀ x : BitVec 1, IntOp.andi 0#1 x = 0#1) _

theorem owns_at (l : Fin 8192) : owns (ix1 l) = BitVec.ofNat 32 (blockOf l).val := by
  have hm : (BitVec.ofNat 32 l.val).msb = false := by
    rw [BitVec.msb_eq_false_iff_two_mul_lt, BitVec.toNat_ofNat]; omega
  have h := floor_word _ _ hm (div_word l)
  unfold owns
  pointwise
  rw [show id (constantI S_ 32 256#32) ix0 = 256#32 from rfl]
  exact h

/-- The queries or keys, and the means, as eight heads. -/
def heads (z : FVec Ideal S2x8192x512 .f32) : FVec Ideal S2x8x8192x64 .f32 :=
  transpose S2x8x8192x64 [0, 2, 1, 3] (shapeCast _ z shapeCasts_S2x8192x512_S2x8192x8x64) transposes_S2x8192x8x64_S2x8x8192x64_0_2_1_3
def meanHeads (z : FVec Ideal S2x32x512 .f32) : FVec Ideal S2x8x32x64 .f32 :=
  transpose S2x8x32x64 [0, 2, 1, 3] (shapeCast _ z shapeCasts_S2x32x512_S2x32x8x64) transposes_S2x32x8x64_S2x8x32x64_0_2_1_3

theorem heads_at (z : FVec Ideal S2x8192x512 .f32) (b : Fin 2) (h : Fin 8) (l : Fin 8192) (d : Fin 64) : heads z (ix4 b h l d) = headOf z b h l d := by
  unfold heads headOf
  pointwise
theorem meanHeads_at (z : FVec Ideal S2x32x512 .f32) (b : Fin 2) (h : Fin 8) (n : Fin 32) (d : Fin 64) :
    meanHeads z (ix4 b h n d) = z (ix3 b n ⟨h.val * 64 + d.val, by omega⟩) := by
  unfold meanHeads
  pointwise

/-- The gates of every query for the blocks before its own. -/
def allGates (q : FVec Ideal S2x8192x512 .f32) (k : FVec Ideal S2x32x512 .f32) : FVec Ideal S2x8x8192x32 .f32 :=
  select (broadcastInDim S2x8x8192x32 ![2, 3] bcast_S8192x32_S2x8x8192x32_2_3 (cmpi .slt (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 owns)))) (Host.dotGeneral (φ₁ := .f32) (φ₂ := .f32) dot_S2x8x8192x64_S2x8x32x64_S2x8x8192x32_3_3_2_2_01_01 none (heads q) (meanHeads k)) (broadcastInDim S2x8x8192x32 ![] bcast_S_S2x8x8192x32 (id (constant S_ .f32 0xFF800000#32)))

theorem allGates_at (q : FVec Ideal S2x8192x512 .f32) (k : FVec Ideal S2x32x512 .f32) (b : Fin 2) (h : Fin 8) (l : Fin 8192) (n : Fin 32) :
    allGates q k (ix4 b h l n) = earlier (gatesOf q k b h l) (blockOf l) n := by
  unfold allGates
  pointwise [owns_at, heads_at, meanHeads_at]
  rw [word_lt, select_ofBool, show id (constant (F := Ideal) S_ .f32 0xFF800000#32) ix0 = Ideal.ofBits .f32 0xFF800000#32 from rfl, RouterIdeal.Value.word_bot]
  rfl

/-- What a sort of pairs along the last axis carries. -/
theorem sort_snd {α β : Type} (cmp : α × β → α × β → BitVec 1) (x : S2x8x8192x32.Idx → α) (y : S2x8x8192x32.Idx → β) (j : S2x8x8192x32.Idx) :
    (Host.sort2 S2x8x8192x32 3 cmp x y).2 j
      = y (j.along 3 (sortedFrom (fun k k' => cmp (x (j.along 3 k), y (j.along 3 k)) (x (j.along 3 k'), y (j.along 3 k')) == 1#1) (j 3))) := by
  unfold Host.sort2
  rw [dif_pos (by decide)]
  rfl

/-- The positions of the three greatest of every row. -/
def picked (g : FVec Ideal S2x8x8192x32 .f32) : IVec S2x8x8192x3 32 :=
  (Host.topK S2x8x8192x3 3 (FloatOps.cmpfTotal .gt) g sliceFits_S2x8x8192x32_S2x8x8192x3).2

/-- The sort's comparison. -/
theorem gt_word (a b : EReal) : (FloatOps.cmpfTotal (F := Ideal) (φ := .f32) .gt a b == 1#1) = decide (b < a) := by
  change (Ideal.cmp .ogt a b == 1#1) = _
  unfold Ideal.cmp
  by_cases h : b < a <;> simp [h]

theorem picked_at (g : FVec Ideal S2x8x8192x32 .f32) (b : Fin 2) (h : Fin 8) (l : Fin 8192) (t : Fin 3) :
    picked g (ix4 b h l t) = BitVec.ofNat 32 (sortedFrom (fun p q => decide (g (ix4 b h l q) < g (ix4 b h l p))) (⟨t.val, by omega⟩ : Fin 32)).val := by
  have ha : ∀ p : Fin 32, Shape.Idx.along (s := S2x8x8192x32) (ix4 b h l (⟨t.val, by omega⟩ : Fin 32)) 3 p = ix4 b h l p := by
    intro p
    funext a
    fin_cases a <;> rfl
  have io : ∀ p : Fin 32, iotaInDim S2x8x8192x32 32 3 (ix4 b h l p) = BitVec.ofNat 32 p.val := fun p => rfl
  have hs : picked g (ix4 b h l t) = (Host.sort2 S2x8x8192x32 3 (fun l r => FloatOps.cmpfTotal (F := Ideal) (φ := .f32) .gt l.1 r.1) g (fun i => iotaInDim S2x8x8192x32 32 3 i)).2 (ix4 b h l (⟨t.val, by omega⟩ : Fin 32)) := by
    unfold picked Host.topK
    pointwise
  refine (hs.trans (sort_snd _ _ _ _)).trans ?_
  simp only [gt_word]
  refine (congrArg _ (ha _)).trans ((io _).trans ?_)
  have e : (fun k k' : Fin 32 => decide (g (Shape.Idx.along (s := S2x8x8192x32) (ix4 b h l (⟨t.val, by omega⟩ : Fin 32)) 3 k') < g (Shape.Idx.along (s := S2x8x8192x32) (ix4 b h l (⟨t.val, by omega⟩ : Fin 32)) 3 k)))
      = fun p q => decide (g (ix4 b h l q) < g (ix4 b h l p)) := by
    funext p q
    rw [ha, ha]
  exact congrArg (fun f : Fin 32 → Fin 32 → Bool => BitVec.ofNat 32 (sortedFrom f (⟨t.val, by omega⟩ : Fin 32)).val) e

/-- Whether a chosen block is a block, and one before the query's own. -/
def chosen (s : IVec S2x8x8192x1 32) : IVec S2x8x8192x32 1 :=
  andi (cmpi .eq (broadcastInDim S2x8x8192x32 ![0, 1, 2, 3] bcast_S2x8x8192x1_S2x8x8192x32_0_1_2_3 s) (broadcastInDim S2x8x8192x32 ![0, 1, 2, 3] bcast_S1x1x1x32_S2x8x8192x32_0_1_2_3 (broadcastInDim S1x1x1x32 ![2, 3] bcast_S1x32_S1x1x1x32_2_3 (broadcastInDim S1x32 ![1] bcast_S32_S1x32_1 (iotaInDim S32 32 0))))) (broadcastInDim S2x8x8192x32 ![0, 1, 2, 3] bcast_S2x8x8192x1_S2x8x8192x32_0_1_2_3 (cmpi .slt s (broadcastInDim S2x8x8192x1 ![0, 1, 2, 3] bcast_S1x1x8192x1_S2x8x8192x1_0_1_2_3 (broadcastInDim S1x1x8192x1 ![2, 3] bcast_S8192x1_S1x1x8192x1_2_3 (broadcastInDim S8192x1 ![0] bcast_S8192_S8192x1_0 owns)))))

/-- The bias of every query for every block. -/
def bias (s : IVec S2x8x8192x3 32) : FVec Ideal S2x8x8192x32 .f32 :=
  select (ori (ori (ori (chosen (extractStridedSlice S2x8x8192x1 ![0, 0, 0, 0] s slices_S2x8x8192x3_S2x8x8192x1_0_0_0_0)) (chosen (extractStridedSlice S2x8x8192x1 ![0, 0, 0, 1] s slices_S2x8x8192x3_S2x8x8192x1_0_0_0_1))) (chosen (extractStridedSlice S2x8x8192x1 ![0, 0, 0, 2] s slices_S2x8x8192x3_S2x8x8192x1_0_0_0_2))) (broadcastInDim S2x8x8192x32 ![0, 1, 2, 3] bcast_S1x1x8192x32_S2x8x8192x32_0_1_2_3 (broadcastInDim S1x1x8192x32 ![2, 3] bcast_S8192x32_S1x1x8192x32_2_3 (cmpi .eq (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 owns)))))) (broadcastInDim S2x8x8192x32 ![] bcast_S_S2x8x8192x32 (constant S_ .f32 0x00000000#32)) (broadcastInDim S2x8x8192x32 ![] bcast_S_S2x8x8192x32 (constant S_ .f32 0xF1800000#32))

theorem bias_at (s : IVec S2x8x8192x3 32) (b : Fin 2) (h : Fin 8) (l : Fin 8192) (n : Fin 32) (f : Fin 32 → EReal)
    (hs : ∀ t : Fin 3, s (ix4 b h l t) = BitVec.ofNat 32 (sortedFrom (fun p q => decide (f q < f p)) (⟨t.val, by omega⟩ : Fin 32)).val) :
    bias s (ix4 b h l n) = if (rank f n < 3 ∧ n < blockOf l) ∨ n = blockOf l then 0 else Ideal.ofBits .f32 0xF1800000#32 := by
  unfold bias
  pointwise [chosen, owns_at]
  simp only [hs, word_eq, word_lt, ofBool_and, ofBool_or, select_ofBool]
  refine if_congr ?_ rfl rfl
  rw [← top_three]
  constructor
  · rintro (((⟨h, h'⟩ | ⟨h, h'⟩) | ⟨h, h'⟩) | h)
    · exact Or.inl ⟨Or.inl h, h ▸ h'⟩
    · exact Or.inl ⟨Or.inr (Or.inl h), h ▸ h'⟩
    · exact Or.inl ⟨Or.inr (Or.inr h), h ▸ h'⟩
    · exact Or.inr h
  · rintro (⟨h | h | h, h'⟩ | h)
    · exact Or.inl (Or.inl (Or.inl ⟨h, h.symm ▸ h'⟩))
    · exact Or.inl (Or.inl (Or.inr ⟨h, h.symm ▸ h'⟩))
    · exact Or.inl (Or.inr ⟨h, h.symm ▸ h'⟩)
    · exact Or.inr h

/-- The reference's queries and keys as functions of its arguments. -/
def resultQ (q : FVec Ideal S2x8192x512 .f32) (k : FVec Ideal S2x32x512 .f32) : FVec Ideal S2x8x8192x128 .bf16 :=
  truncf .bf16 (concatenate S2x8x8192x128 3 [⟨S2x8x8192x64, (mulf (heads q) (broadcastInDim S2x8x8192x64 ![] bcast_S_S2x8x8192x64 (constant S_ .f32 0x3E000000#32)))⟩, ⟨S2x8x8192x32, (bias (picked (allGates q k)))⟩, ⟨S2x8x8192x32, (broadcastInDim S2x8x8192x32 ![] bcast_S_S2x8x8192x32 (constant S_ .f32 0x00000000#32))⟩] concatenates_S2x8x8192x64_S2x8x8192x32_S2x8x8192x32_S2x8x8192x128_d3) bitsLt_bf16_f32
def resultK (k : FVec Ideal S2x8192x512 .f32) : FVec Ideal S2x8x8192x128 .bf16 :=
  truncf .bf16 (concatenate S2x8x8192x128 3 [⟨S2x8x8192x64, (heads k)⟩, ⟨S2x8x8192x32, (broadcastInDim S2x8x8192x32 ![2, 3] bcast_S8192x32_S2x8x8192x32_2_3 (select (cmpi .eq (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 owns))) (broadcastInDim S8192x32 ![] bcast_S_S8192x32 (constant S_ .f32 0x3F800000#32)) (broadcastInDim S8192x32 ![] bcast_S_S8192x32 (constant S_ .f32 0x00000000#32))))⟩, ⟨S2x8x8192x32, (broadcastInDim S2x8x8192x32 ![] bcast_S_S2x8x8192x32 (constant S_ .f32 0x00000000#32))⟩] concatenates_S2x8x8192x64_S2x8x8192x32_S2x8x8192x32_S2x8x8192x128_d3) bitsLt_bf16_f32

theorem resultQ_eq (q : FVec Ideal S2x8192x512 .f32) (k : FVec Ideal S2x32x512 .f32) : resultQ q k = RouterIdeal.Value.queries q k := by
  have hb : ∀ b h l n, bias (picked (allGates q k)) (ix4 b h l n) = if attends (gatesOf q k b h l) (blockOf l) n then 0 else Ideal.ofBits .f32 0xF1800000#32 := by
    intro b h l n
    rw [bias_at _ b h l n _ (picked_at (allGates q k) b h l), show (fun p => allGates q k (ix4 b h l p)) = earlier (gatesOf q k b h l) (blockOf l) from funext fun p => allGates_at q k b h l p]
    exact if_congr Iff.rfl rfl rfl
  funext j
  idx_vars j
  change _ = queryRow (headOf q j0 j1 j2) (gatesOf q k j0 j1 j2) (blockOf j2) j3
  unfold resultQ
  pointwise [heads_at, hb]
  by_cases hl : j3.val < 64
  · refine (dif_pos hl).trans (queryRow_low _ _ _ hl).symm
  · refine (dif_neg hl).trans ?_
    by_cases hm : j3.val < 96
    · exact (dif_pos (show j3.val - 64 < 32 by omega)).trans (queryRow_mid _ _ _ hl hm).symm
    · exact (dif_neg (show ¬ j3.val - 64 < 32 by omega)).trans (queryRow_high _ _ _ hl hm).symm

theorem resultK_eq (k : FVec Ideal S2x8192x512 .f32) : resultK k = RouterIdeal.Value.keys k := by
  funext j
  idx_vars j
  change _ = keyRow (headOf k j0 j1 j2) (blockOf j2) j3
  unfold resultK
  pointwise [heads_at, owns_at]
  unfold keyRow
  by_cases hl : j3.val < 64
  · refine (dif_pos hl).trans ?_
    rw [dif_pos hl]
  · refine (dif_neg hl).trans ?_
    rw [dif_neg hl]
    by_cases hm : j3.val < 96
    · refine (dif_pos (show j3.val - 64 < 32 by omega)).trans ?_
      rw [show BitVec.ofNat 32 (j3.val - 64) = BitVec.ofNat 32 (⟨j3.val - 64, by omega⟩ : Fin 32).val from rfl, word_eq, select_ofBool]
      refine if_congr ?_ rfl rfl
      rw [Fin.ext_iff]
      simp only []
      omega
    · refine (dif_neg (show ¬ j3.val - 64 < 32 by omega)).trans (Eq.symm (if_neg ?_))
      have := (blockOf j2).isLt
      omega

end Cert.RouterRefIdeal.Value

end
-- ==== Proof.RouterEqual.lean ====
/-
  The call of the selection and the plain selection agree.
-/
module

public import proofs.«01_k».proof.Proof.RouterArray
public import proofs.«01_k».proof.Proof.RouterReference
public import proofs.«01_k».proof.Proof.AttnEqual
public import proofs.«01_k».proof.Defs
public import Idealize.ShloMosaic.Lib.Pointwise

@[expose] public section

set_option maxRecDepth 16384

noncomputable section

namespace Cert.RouterEqual

open Idealize.ShloMosaic Idealize.ShloMosaic.TcCoe Idealize.SL.Sem

instance facts : Pre_finite5.Facts where
  bcast_S_S2x8192x512 := by decide
  bcast_S_S2x32x512 := by decide

/-- What the precondition says of the queries and the means. -/
theorem finite_of_pre (m : (ℓ : Loc RouterIdeal.nD RouterIdeal.τ RouterIdeal.sig) → Buf (Elt Ideal) ℓ) (h : Pre_RouterIdeal_finite5 m) (c : Dev RouterIdeal.nD) :
    RouterIdeal.Value.Finite m c where
  query b l e := by
    have z := congrFun (h c).1 (ix3 b l e)
    pointwise [Pre_finite5.fn] at z
    exact AttnEqual.real_of_bit _ z
  mean b n e := by
    have z := congrFun (h c).2 (ix3 b n e)
    pointwise [Pre_finite5.fn] at z
    exact AttnEqual.real_of_bit _ z

/-- The call computes what its reference computes. -/
theorem algebraic : Cert.algebraic_RouterIdeal_RouterRefIdeal_pre_finite5 := by
  intro m g m' g' hp ha
  have hf := finite_of_pre m hp
  refine ⟨fun c => (RouterIdeal.Gen.dats m 0 c).arrAt 3 RouterIdeal.cfg0.N, fun c => (RouterIdeal.Gen.dats m 0 c).arrAt 4 RouterIdeal.cfg0.N, RouterIdeal.Value.run_blocks m g, ?_⟩
  refine (θ_run RouterRefIdeal.defs _ _).mono (fun r h c => ⟨(h c).1.trans ?_, (h c).2.1.trans ?_, (h c).2.2⟩) (RouterRefIdeal.Value.run (F := Ideal) m' g')
  · obtain ⟨h0, h1, h2⟩ := ha c
    refine Eq.trans ?_ (RouterIdeal.Value.array3 m c (hf c)).symm
    unfold RouterRefIdeal.Value.res_main_v65
    rw [h0, h2]
    exact RouterRefIdeal.Value.resultQ_eq _ _
  · obtain ⟨h0, h1, h2⟩ := ha c
    refine Eq.trans ?_ (RouterIdeal.Value.array4 m c).symm
    rw [h1]
    exact RouterRefIdeal.Value.resultK_eq _

/-- The reference runs, leaves its arguments and ends with every counter at zero. -/
theorem frame_reference (m : (ℓ : Loc RouterRefIdeal.nD RouterRefIdeal.τ RouterRefIdeal.sig) → Buf (Elt Ideal) ℓ) (ρ : Dev RouterRefIdeal.nD → PrngReg) :
    θ_run (RouterRefIdeal.defs (F := Ideal)) (onTc (τ := RouterRefIdeal.τ) (RouterRefIdeal.main (F := Ideal))) ⟨m, fun _ => 0, ρ⟩ (fun r => (∀ c : Dev RouterRefIdeal.nD,
      r.2.mem ((c.tc : Thread RouterRefIdeal.nD RouterRefIdeal.τ).loc RouterRefIdeal.main_arg0) = m ((c.tc : Thread RouterRefIdeal.nD RouterRefIdeal.τ).loc RouterRefIdeal.main_arg0)
      ∧ r.2.mem ((c.tc : Thread RouterRefIdeal.nD RouterRefIdeal.τ).loc RouterRefIdeal.main_arg1) = m ((c.tc : Thread RouterRefIdeal.nD RouterRefIdeal.τ).loc RouterRefIdeal.main_arg1)
      ∧ r.2.mem ((c.tc : Thread RouterRefIdeal.nD RouterRefIdeal.τ).loc RouterRefIdeal.main_arg2) = m ((c.tc : Thread RouterRefIdeal.nD RouterRefIdeal.τ).loc RouterRefIdeal.main_arg2))
      ∧ r.2.sem = fun _ => 0) :=
  (θ_run RouterRefIdeal.defs _ _).mono (fun r h => ⟨fun c => (h c).2.2, sem_eq_zero_of_no_sems (by decide) r.2⟩)
    (RouterRefIdeal.Value.run (F := Ideal) m ρ)

end Cert.RouterEqual

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.AttnEqual
public import proofs.«01_k».proof.Proof.MlpEqual
public import proofs.«01_k».proof.Proof.InprojEqual
public import proofs.«01_k».proof.Proof.AdalnEqual
public import proofs.«01_k».proof.Proof.RouterEqual
public import proofs.«01_k».proof.Proof.Gen.Mlp
public import proofs.«01_k».proof.Proof.Gen.MlpIdeal
public import proofs.«01_k».proof.Proof.Gen.MlpRefIdeal
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.Inproj
public import proofs.«01_k».proof.Proof.Gen.InprojIdeal
public import proofs.«01_k».proof.Proof.Gen.InprojRefIdeal
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.Adaln
public import proofs.«01_k».proof.Proof.Gen.AdalnIdeal
public import proofs.«01_k».proof.Proof.Gen.AdalnRefIdeal
public import proofs.«01_k».proof.Proof.Gen.Adaln.Frame
public import proofs.«01_k».proof.Proof.Gen.AdalnIdeal.Frame
public import proofs.«01_k».proof.Proof.Gen.AdalnIdeal.Value
public import proofs.«01_k».proof.Proof.Gen.AdalnRefIdeal.Run
public import proofs.«01_k».proof.Proof.Gen.Router
public import proofs.«01_k».proof.Proof.Gen.RouterIdeal
public import proofs.«01_k».proof.Proof.Gen.RouterRefIdeal
public import proofs.«01_k».proof.Proof.Gen.Router.Frame
public import proofs.«01_k».proof.Proof.Gen.RouterIdeal.Frame
public import proofs.«01_k».proof.Proof.Gen.RouterIdeal.Value
public import proofs.«01_k».proof.Proof.Gen.RouterRefIdeal.Run
public import Idealize.ShloMosaic.Adequacy
public import Idealize.ShloMosaic.Init

@[expose] public section

noncomputable section

namespace Cert.Proof

open Idealize.ShloMosaic Idealize.SL.Sem Cert.Attn

/-- Everything the certificate claims. -/
theorem claim : Cert.Claim :=
  ⟨Cert.Attn.Gen.facts, Cert.AttnIdeal.Gen.facts, Cert.AttnRefIdeal.Gen.facts,
    Cert.Mlp.Gen.facts, Cert.MlpIdeal.Gen.facts, Cert.MlpRefIdeal.Gen.facts,
    Cert.Inproj.Gen.facts, Cert.InprojIdeal.Gen.facts, Cert.InprojRefIdeal.Gen.facts,
    Cert.Adaln.Gen.facts, Cert.AdalnIdeal.Gen.facts, Cert.AdalnRefIdeal.Gen.facts,
    Cert.Router.Gen.facts, Cert.RouterIdeal.Gen.facts, Cert.RouterRefIdeal.Gen.facts,
    Cert.AttnEqual.facts, Cert.InprojEqual.facts, Cert.AdalnEqual.facts, Cert.RouterEqual.facts,
    fun m ρ _ => Cert.Attn.Gen.frame m ρ, fun m ρ _ => Cert.AttnIdeal.Gen.frame m ρ, fun m ρ _ => Cert.AttnIdeal.Gen.frame m ρ,
    fun m ρ _ => Cert.AttnEqual.frame_reference m ρ, fun m ρ _ => Cert.AttnEqual.frame_reference m ρ,
    fun m ρ _ => Cert.Mlp.Gen.frame m ρ, fun m ρ _ => Cert.MlpIdeal.Gen.frame m ρ, fun m ρ _ => Cert.MlpEqual.frame_reference m ρ,
    fun m ρ _ => Cert.Inproj.Gen.frame m ρ, fun m ρ _ => Cert.InprojIdeal.Gen.frame m ρ, fun m ρ _ => Cert.InprojIdeal.Gen.frame m ρ,
    fun m ρ _ => Cert.InprojEqual.frame_reference m ρ, fun m ρ _ => Cert.InprojEqual.frame_reference m ρ,
    fun m ρ _ => Cert.Adaln.Gen.frame m ρ, fun m ρ _ => Cert.AdalnIdeal.Gen.frame m ρ, fun m ρ _ => Cert.AdalnIdeal.Gen.frame m ρ,
    fun m ρ _ => Cert.AdalnEqual.frame_reference m ρ, fun m ρ _ => Cert.AdalnEqual.frame_reference m ρ,
    fun m ρ _ => Cert.Router.Gen.frame m ρ, fun m ρ _ => Cert.RouterIdeal.Gen.frame m ρ, fun m ρ _ => Cert.RouterIdeal.Gen.frame m ρ,
    fun m ρ _ => Cert.RouterEqual.frame_reference m ρ, fun m ρ _ => Cert.RouterEqual.frame_reference m ρ,
    IdealRules.named_const.statement Cert.AttnIdeal.κ "mask" .f32 0xF1800000#32 ⊥ rfl, Cert.AttnEqual.algebraic,
    trivial, Cert.MlpEqual.algebraic, trivial, Cert.InprojEqual.algebraic, trivial, Cert.AdalnEqual.algebraic,
    trivial, Cert.RouterEqual.algebraic⟩

end Cert.Proof

end
